-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_index [hPre_sorted_index : Cert.Pre_sorted_index.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_index.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_index [hPre_sorted_index : Cert.Pre_sorted_index.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_index.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sorted_index [hKernelIdeal : Cert.KernelIdeal.Facts] [hPre_sorted_index : Cert.Pre_sorted_index.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_index m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sorted_index [hReferenceIdeal : Cert.ReferenceIdeal.Facts] [hPre_sorted_index : Cert.Pre_sorted_index.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_index m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_sorted_index [hKernelIdeal : Cert.KernelIdeal.Facts] [hReferenceIdeal : Cert.ReferenceIdeal.Facts] [hPre_sorted_index : Cert.Pre_sorted_index.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_index m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_sorted_index : Cert.Pre_sorted_index.Facts),
    quiescent_Kernel (hKernel := hKernel)
    ∧ quiescent_KernelIdeal (hKernelIdeal := hKernelIdeal)
    ∧ quiescent_KernelIdeal_pre_sorted_index (hKernelIdeal := hKernelIdeal) (hPre_sorted_index := hPre_sorted_index)
    ∧ quiescent_ReferenceIdeal (hReferenceIdeal := hReferenceIdeal)
    ∧ quiescent_ReferenceIdeal_pre_sorted_index (hReferenceIdeal := hReferenceIdeal) (hPre_sorted_index := hPre_sorted_index)
    ∧ preserves_Kernel_KernelIdeal
    ∧ algebraic_KernelIdeal_ReferenceIdeal_pre_sorted_index (hKernelIdeal := hKernelIdeal) (hReferenceIdeal := hReferenceIdeal) (hPre_sorted_index := hPre_sorted_index)
-- ==== Pre_sorted_index.lean ====
abbrev S160000x256 : Shape := ⟨2, ![160000, 256]⟩
abbrev S160000 : Shape := ⟨1, ![160000]⟩
abbrev S256x256 : Shape := ⟨2, ![256, 256]⟩
abbrev S159999 : Shape := ⟨1, ![159999]⟩

class Facts : Prop where
  slices_S160000_S159999_0 : S160000.Slices ![0] S159999
  slices_S160000_S159999_1 : S160000.Slices ![1] S159999

variable [Facts]

def fn {F : FTy → Type} [FloatOps F] (main_arg0 : FVec F S160000x256 .f32) (main_arg1 : IVec S160000 32) (main_arg2 : FVec F S256x256 .f32) : IVec S159999 1 :=
  let main_v0 : IVec S159999 32 := (extractStridedSlice S159999 ![0] · slices_S160000_S159999_0) main_arg1
  let main_v1 : IVec S159999 32 := (extractStridedSlice S159999 ![1] · slices_S160000_S159999_1) main_arg1
  let main_v2 : IVec S159999 1 := cmpi .sle main_v0 main_v1
  main_v2
-- ==== Kernel.lean ====
abbrev S160000x256 : Shape := ⟨2, ![160000, 256]⟩
abbrev S160000 : Shape := ⟨1, ![160000]⟩
abbrev S256x256 : Shape := ⟨2, ![256, 256]⟩
abbrev S324097 : Shape := ⟨1, ![324097]⟩
abbrev S1x324097 : Shape := ⟨2, ![1, 324097]⟩
abbrev S160000x1 : Shape := ⟨2, ![160000, 1]⟩
abbrev S160000x324097 : Shape := ⟨2, ![160000, 324097]⟩
abbrev S_ : Shape := ⟨0, ![]⟩
abbrev S324096 : Shape := ⟨1, ![324096]⟩
abbrev S1266x256x1 : Shape := ⟨3, ![1266, 256, 1]⟩
abbrev S1267 : Shape := ⟨1, ![1267]⟩
abbrev S324096x256 : Shape := ⟨2, ![324096, 256]⟩
abbrev S1x256x1 : Shape := ⟨3, ![1, 256, 1]⟩
abbrev S256x1 : Shape := ⟨2, ![256, 1]⟩
abbrev S1 : Shape := ⟨1, ![1]⟩
abbrev S256 : Shape := ⟨1, ![256]⟩
abbrev S324000x256 : Shape := ⟨2, ![324000, 256]⟩
abbrev S2x180x180x5x256 : Shape := ⟨5, ![2, 180, 180, 5, 256]⟩
abbrev S2x256x5x180x180 : Shape := ⟨5, ![2, 256, 5, 180, 180]⟩

abbrev nBuf : Space → Nat
  | .hbm => 21
  | .vmem => 10
  | .smem => 1
  | _ => 0

abbrev bufTy : (tb : Table) → Fin (tcTables nBuf tb) → BufTy
  | .hbm, ⟨0, _⟩ => ⟨S160000x256, .f32⟩
  | .hbm, ⟨1, _⟩ => ⟨S160000, .i32⟩
  | .hbm, ⟨2, _⟩ => ⟨S256x256, .f32⟩
  | .hbm, ⟨3, _⟩ => ⟨S324097, .i32⟩
  | .hbm, ⟨4, _⟩ => ⟨S1x324097, .i32⟩
  | .hbm, ⟨5, _⟩ => ⟨S160000x1, .i32⟩
  | .hbm, ⟨6, _⟩ => ⟨S160000x324097, .i32⟩
  | .hbm, ⟨7, _⟩ => ⟨S160000x324097, .i32⟩
  | .hbm, ⟨8, _⟩ => ⟨S160000x324097, .i1⟩
  | .hbm, ⟨9, _⟩ => ⟨S160000x324097, .i32⟩
  | .hbm, ⟨10, _⟩ => ⟨S_, .i32⟩
  | .hbm, ⟨11, _⟩ => ⟨S324097, .i32⟩
  | .hbm, ⟨12, _⟩ => ⟨S324096, .i32⟩
  | .hbm, ⟨13, _⟩ => ⟨S1266x256x1, .i32⟩
  | .hbm, ⟨14, _⟩ => ⟨S324096, .i32⟩
  | .hbm, ⟨15, _⟩ => ⟨S1266x256x1, .i32⟩
  | .hbm, ⟨16, _⟩ => ⟨S1267, .i32⟩
  | .hbm, ⟨17, _⟩ => ⟨S324096x256, .f32⟩
  | .hbm, ⟨18, _⟩ => ⟨S324000x256, .f32⟩
  | .hbm, ⟨19, _⟩ => ⟨S2x180x180x5x256, .f32⟩
  | .hbm, ⟨20, _⟩ => ⟨S2x256x5x180x180, .f32⟩
  | .local _ .vmem, ⟨0, _⟩ => ⟨S1x256x1, .i32⟩
  | .local _ .vmem, ⟨1, _⟩ => ⟨S1x256x1, .i32⟩
  | .local _ .vmem, ⟨2, _⟩ => ⟨S1x256x1, .i32⟩
  | .local _ .vmem, ⟨3, _⟩ => ⟨S1x256x1, .i32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x1, .f32⟩
  | .local _ .smem, ⟨0, _⟩ => ⟨S1267, .i32⟩
  | _, _ => ⟨S160000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_call0_v0 : Ref sig .tc := ⟨.hbm, 4, rfl⟩
abbrev main_call0_call0_v1 : Ref sig .tc := ⟨.hbm, 5, rfl⟩
abbrev main_call0_call0_v2 : Ref sig .tc := ⟨.hbm, 6, rfl⟩
abbrev main_call0_call0_v3 : Ref sig .tc := ⟨.hbm, 7, rfl⟩
abbrev main_call0_call0_v4 : Ref sig .tc := ⟨.hbm, 8, rfl⟩
abbrev main_call0_call0_v5 : Ref sig .tc := ⟨.hbm, 9, rfl⟩
abbrev main_call0_call0_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![1266], ![false]⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.addi arg0 c1_i32
  let v3 : Index := Scalar.indexCast v2
  ![v3.toNat]
@[reducible] def k0_t1_loop (v1 : BitVec 32) (v4 : BitVec 32) : Scf.Loop 32 :=
  let c0_i32_25 : BitVec 32 := 0#32
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c8_i32 : BitVec 32 := 8#32
  let c0_i32_1 : BitVec 32 := 0#32
  let v11 : BitVec 1 := Scalar.cmpi .sgt c8_i32 c0_i32_1
  let v12 : BitVec 32 := Scalar.extui v11
  let c0_i32_2 : BitVec 32 := 0#32
  let v13 : BitVec 1 := Scalar.cmpi .slt c8_i32 c0_i32_2
  let v14 : BitVec 32 := Scalar.extui v13
  let v15 : BitVec 32 := Scalar.subi v12 v14
  let v16 : BitVec 1 := Scalar.cmpi .ne v10 v15
  let v17 : BitVec 32 := Scalar.remsi v1 c8_i32
  let c0_i32_3 : BitVec 32 := 0#32
  let v18 : BitVec 1 := Scalar.cmpi .ne v17 c0_i32_3
  let v19 : BitVec 1 := Scalar.andi v16 v18
  let v5 : BitVec 32 := Scalar.divsi v1 c8_i32
  let c1_i32_4 : BitVec 32 := 1#32
  let v20 : BitVec 32 := Scalar.subi v5 c1_i32_4
  let v21 : BitVec 32 := Scalar.select v19 v20 v5
  let c8_i32_5 : BitVec 32 := 8#32
  let v22 : BitVec 32 := Scalar.muli v21 c8_i32_5
  let v23 : BitVec 32 := Scalar.subi v4 v22
  let c256_i32 : BitVec 32 := 256#32
  let v24 : BitVec 32 := Scalar.addi v23 c256_i32
  let c1_i32_6 : BitVec 32 := 1#32
  let v25 : BitVec 32 := Scalar.subi v24 c1_i32_6
  let c0_i32_8 : BitVec 32 := 0#32
  let v27 : BitVec 1 := Scalar.cmpi .sgt v25 c0_i32_8
  let v28 : BitVec 32 := Scalar.extui v27
  let c0_i32_9 : BitVec 32 := 0#32
  let v29 : BitVec 1 := Scalar.cmpi .slt v25 c0_i32_9
  let v30 : BitVec 32 := Scalar.extui v29
  let v31 : BitVec 32 := Scalar.subi v28 v30
  let c256_i32_7 : BitVec 32 := 256#32
  let c0_i32_10 : BitVec 32 := 0#32
  let v32 : BitVec 1 := Scalar.cmpi .sgt c256_i32_7 c0_i32_10
  let v33 : BitVec 32 := Scalar.extui v32
  let c0_i32_11 : BitVec 32 := 0#32
  let v34 : BitVec 1 := Scalar.cmpi .slt c256_i32_7 c0_i32_11
  let v35 : BitVec 32 := Scalar.extui v34
  let v36 : BitVec 32 := Scalar.subi v33 v35
  let v37 : BitVec 1 := Scalar.cmpi .ne v31 v36
  let v38 : BitVec 32 := Scalar.remsi v25 c256_i32_7
  let c0_i32_12 : BitVec 32 := 0#32
  let v39 : BitVec 1 := Scalar.cmpi .ne v38 c0_i32_12
  let v40 : BitVec 1 := Scalar.andi v37 v39
  let v26 : BitVec 32 := Scalar.divsi v25 c256_i32_7
  let c1_i32_13 : BitVec 32 := 1#32
  let v41 : BitVec 32 := Scalar.subi v26 c1_i32_13
  let v42 : BitVec 32 := Scalar.select v40 v41 v26
  let v55 : BitVec 32 := Scalar.subi v42 c0_i32_25
  let c1_i32_26 : BitVec 32 := 1#32
  let v57 : BitVec 32 := Scalar.divsi v55 c1_i32_26
  let v58 : BitVec 32 := Scalar.muli v57 c1_i32_26
  let v59 : BitVec 32 := Scalar.addi c0_i32_25 v58
  let c1_i32_27 : BitVec 32 := 1#32
  ⟨c0_i32_25, v59, c1_i32_27⟩

def k0_off3 (v1 : BitVec 32) (v4 : BitVec 32) (k0_t1 : Fin (k0_t1_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c8_i32 : BitVec 32 := 8#32
  let c0_i32_1 : BitVec 32 := 0#32
  let v11 : BitVec 1 := Scalar.cmpi .sgt c8_i32 c0_i32_1
  let v12 : BitVec 32 := Scalar.extui v11
  let c0_i32_2 : BitVec 32 := 0#32
  let v13 : BitVec 1 := Scalar.cmpi .slt c8_i32 c0_i32_2
  let v14 : BitVec 32 := Scalar.extui v13
  let v15 : BitVec 32 := Scalar.subi v12 v14
  let v16 : BitVec 1 := Scalar.cmpi .ne v10 v15
  let v17 : BitVec 32 := Scalar.remsi v1 c8_i32
  let c0_i32_3 : BitVec 32 := 0#32
  let v18 : BitVec 1 := Scalar.cmpi .ne v17 c0_i32_3
  let v19 : BitVec 1 := Scalar.andi v16 v18
  let v5 : BitVec 32 := Scalar.divsi v1 c8_i32
  let c1_i32_4 : BitVec 32 := 1#32
  let v20 : BitVec 32 := Scalar.subi v5 c1_i32_4
  let v21 : BitVec 32 := Scalar.select v19 v20 v5
  let c8_i32_5 : BitVec 32 := 8#32
  let v22 : BitVec 32 := Scalar.muli v21 c8_i32_5
  let c0_i32_25 : BitVec 32 := 0#32
  let c1_i32_27 : BitVec 32 := 1#32
  let arg11 : BitVec 32 := Scf.iv c0_i32_25 c1_i32_27 k0_t1
  let c256_i32_39 : BitVec 32 := 256#32
  let v69 : BitVec 32 := Scalar.muli arg11 c256_i32_39
  let v70 : BitVec 32 := Scalar.addi v22 v69
  let c159744_i32 : BitVec 32 := 159744#32
  let v71 : BitVec 32 := Scalar.minsi v70 c159744_i32
  let c0_i32_40 : BitVec 32 := 0#32
  ![v71.toNat, 0]
@[reducible] def k0_t2_loop (v1 : BitVec 32) (v4 : BitVec 32) : Scf.Loop 32 :=
  let c0_i32_25 : BitVec 32 := 0#32
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c8_i32 : BitVec 32 := 8#32
  let c0_i32_1 : BitVec 32 := 0#32
  let v11 : BitVec 1 := Scalar.cmpi .sgt c8_i32 c0_i32_1
  let v12 : BitVec 32 := Scalar.extui v11
  let c0_i32_2 : BitVec 32 := 0#32
  let v13 : BitVec 1 := Scalar.cmpi .slt c8_i32 c0_i32_2
  let v14 : BitVec 32 := Scalar.extui v13
  let v15 : BitVec 32 := Scalar.subi v12 v14
  let v16 : BitVec 1 := Scalar.cmpi .ne v10 v15
  let v17 : BitVec 32 := Scalar.remsi v1 c8_i32
  let c0_i32_3 : BitVec 32 := 0#32
  let v18 : BitVec 1 := Scalar.cmpi .ne v17 c0_i32_3
  let v19 : BitVec 1 := Scalar.andi v16 v18
  let v5 : BitVec 32 := Scalar.divsi v1 c8_i32
  let c1_i32_4 : BitVec 32 := 1#32
  let v20 : BitVec 32 := Scalar.subi v5 c1_i32_4
  let v21 : BitVec 32 := Scalar.select v19 v20 v5
  let c8_i32_5 : BitVec 32 := 8#32
  let v22 : BitVec 32 := Scalar.muli v21 c8_i32_5
  let v23 : BitVec 32 := Scalar.subi v4 v22
  let c256_i32 : BitVec 32 := 256#32
  let v24 : BitVec 32 := Scalar.addi v23 c256_i32
  let c1_i32_6 : BitVec 32 := 1#32
  let v25 : BitVec 32 := Scalar.subi v24 c1_i32_6
  let c0_i32_8 : BitVec 32 := 0#32
  let v27 : BitVec 1 := Scalar.cmpi .sgt v25 c0_i32_8
  let v28 : BitVec 32 := Scalar.extui v27
  let c0_i32_9 : BitVec 32 := 0#32
  let v29 : BitVec 1 := Scalar.cmpi .slt v25 c0_i32_9
  let v30 : BitVec 32 := Scalar.extui v29
  let v31 : BitVec 32 := Scalar.subi v28 v30
  let c256_i32_7 : BitVec 32 := 256#32
  let c0_i32_10 : BitVec 32 := 0#32
  let v32 : BitVec 1 := Scalar.cmpi .sgt c256_i32_7 c0_i32_10
  let v33 : BitVec 32 := Scalar.extui v32
  let c0_i32_11 : BitVec 32 := 0#32
  let v34 : BitVec 1 := Scalar.cmpi .slt c256_i32_7 c0_i32_11
  let v35 : BitVec 32 := Scalar.extui v34
  let v36 : BitVec 32 := Scalar.subi v33 v35
  let v37 : BitVec 1 := Scalar.cmpi .ne v31 v36
  let v38 : BitVec 32 := Scalar.remsi v25 c256_i32_7
  let c0_i32_12 : BitVec 32 := 0#32
  let v39 : BitVec 1 := Scalar.cmpi .ne v38 c0_i32_12
  let v40 : BitVec 1 := Scalar.andi v37 v39
  let v26 : BitVec 32 := Scalar.divsi v25 c256_i32_7
  let c1_i32_13 : BitVec 32 := 1#32
  let v41 : BitVec 32 := Scalar.subi v26 c1_i32_13
  let v42 : BitVec 32 := Scalar.select v40 v41 v26
  let v55 : BitVec 32 := Scalar.subi v42 c0_i32_25
  let c1_i32_26 : BitVec 32 := 1#32
  let v57 : BitVec 32 := Scalar.divsi v55 c1_i32_26
  let v58 : BitVec 32 := Scalar.muli v57 c1_i32_26
  let v59 : BitVec 32 := Scalar.addi c0_i32_25 v58
  let v56 : BitVec 32 := Scalar.addi c0_i32_25 v55
  let c1_i32_28 : BitVec 32 := 1#32
  ⟨v59, v56, c1_i32_28⟩
def k0_off4 (v1 : BitVec 32) (v4 : BitVec 32) (k0_t2 : Fin (k0_t2_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c8_i32 : BitVec 32 := 8#32
  let c0_i32_1 : BitVec 32 := 0#32
  let v11 : BitVec 1 := Scalar.cmpi .sgt c8_i32 c0_i32_1
  let v12 : BitVec 32 := Scalar.extui v11
  let c0_i32_2 : BitVec 32 := 0#32
  let v13 : BitVec 1 := Scalar.cmpi .slt c8_i32 c0_i32_2
  let v14 : BitVec 32 := Scalar.extui v13
  let v15 : BitVec 32 := Scalar.subi v12 v14
  let v16 : BitVec 1 := Scalar.cmpi .ne v10 v15
  let v17 : BitVec 32 := Scalar.remsi v1 c8_i32
  let c0_i32_3 : BitVec 32 := 0#32
  let v18 : BitVec 1 := Scalar.cmpi .ne v17 c0_i32_3
  let v19 : BitVec 1 := Scalar.andi v16 v18
  let v5 : BitVec 32 := Scalar.divsi v1 c8_i32
  let c1_i32_4 : BitVec 32 := 1#32
  let v20 : BitVec 32 := Scalar.subi v5 c1_i32_4
  let v21 : BitVec 32 := Scalar.select v19 v20 v5
  let c8_i32_5 : BitVec 32 := 8#32
  let v22 : BitVec 32 := Scalar.muli v21 c8_i32_5
  let c0_i32_25 : BitVec 32 := 0#32
  let v23 : BitVec 32 := Scalar.subi v4 v22
  let c256_i32 : BitVec 32 := 256#32
  let v24 : BitVec 32 := Scalar.addi v23 c256_i32
  let c1_i32_6 : BitVec 32 := 1#32
  let v25 : BitVec 32 := Scalar.subi v24 c1_i32_6
  let c0_i32_8 : BitVec 32 := 0#32
  let v27 : BitVec 1 := Scalar.cmpi .sgt v25 c0_i32_8
  let v28 : BitVec 32 := Scalar.extui v27
  let c0_i32_9 : BitVec 32 := 0#32
  let v29 : BitVec 1 := Scalar.cmpi .slt v25 c0_i32_9
  let v30 : BitVec 32 := Scalar.extui v29
  let v31 : BitVec 32 := Scalar.subi v28 v30
  let c256_i32_7 : BitVec 32 := 256#32
  let c0_i32_10 : BitVec 32 := 0#32
  let v32 : BitVec 1 := Scalar.cmpi .sgt c256_i32_7 c0_i32_10
  let v33 : BitVec 32 := Scalar.extui v32
  let c0_i32_11 : BitVec 32 := 0#32
  let v34 : BitVec 1 := Scalar.cmpi .slt c256_i32_7 c0_i32_11
  let v35 : BitVec 32 := Scalar.extui v34
  let v36 : BitVec 32 := Scalar.subi v33 v35
  let v37 : BitVec 1 := Scalar.cmpi .ne v31 v36
  let v38 : BitVec 32 := Scalar.remsi v25 c256_i32_7
  let c0_i32_12 : BitVec 32 := 0#32
  let v39 : BitVec 1 := Scalar.cmpi .ne v38 c0_i32_12
  let v40 : BitVec 1 := Scalar.andi v37 v39
  let v26 : BitVec 32 := Scalar.divsi v25 c256_i32_7
  let c1_i32_13 : BitVec 32 := 1#32
  let v41 : BitVec 32 := Scalar.subi v26 c1_i32_13
  let v42 : BitVec 32 := Scalar.select v40 v41 v26
  let v55 : BitVec 32 := Scalar.subi v42 c0_i32_25
  let c1_i32_26 : BitVec 32 := 1#32
  let v57 : BitVec 32 := Scalar.divsi v55 c1_i32_26
  let v58 : BitVec 32 := Scalar.muli v57 c1_i32_26
  let v59 : BitVec 32 := Scalar.addi c0_i32_25 v58
  let c1_i32_28 : BitVec 32 := 1#32
  let arg11 : BitVec 32 := Scf.iv v59 c1_i32_28 k0_t2
  let c256_i32_39 : BitVec 32 := 256#32
  let v69 : BitVec 32 := Scalar.muli arg11 c256_i32_39
  let v70 : BitVec 32 := Scalar.addi v22 v69
  let c159744_i32 : BitVec 32 := 159744#32
  let v71 : BitVec 32 := Scalar.minsi v70 c159744_i32
  let c0_i32_40 : BitVec 32 := 0#32
  ![v71.toNat, 0]

def k0_chk1 (v1 : BitVec 32) (v4 : BitVec 32) : Prop :=
  ((k0_t1_loop v1 v4).OK) ∧
  (∀ k0_t1 : Fin (k0_t1_loop v1 v4).trips, ∀ a, (k0_off3 v1 v4 k0_t1) a + S256x256.size a ≤ S160000x256.size a) ∧
  ((k0_t2_loop v1 v4).OK) ∧
  (∀ k0_t2 : Fin (k0_t2_loop v1 v4).trips, ∀ a, (k0_off4 v1 v4 k0_t2) a + S256x256.size a ≤ S160000x256.size a)
theorem k0_t1_ok : ∀ (v1 : BitVec 32) (v4 : BitVec 32) (k0_hw1 : k0_chk1 v1 v4), (k0_t1_loop v1 v4).OK := fun v1 v4 k0_hw1 => k0_hw1.1
theorem k0_off3_inb : ∀ (v1 : BitVec 32) (v4 : BitVec 32) (k0_hw1 : k0_chk1 v1 v4) (k0_t1 : Fin (k0_t1_loop v1 v4).trips), ∀ a, (k0_off3 v1 v4 k0_t1) a + S256x256.size a ≤ S160000x256.size a := fun v1 v4 k0_hw1 k0_t1 => k0_hw1.2.1 k0_t1
theorem k0_t2_ok : ∀ (v1 : BitVec 32) (v4 : BitVec 32) (k0_hw1 : k0_chk1 v1 v4), (k0_t2_loop v1 v4).OK := fun v1 v4 k0_hw1 => k0_hw1.2.2.1
theorem k0_off4_inb : ∀ (v1 : BitVec 32) (v4 : BitVec 32) (k0_hw1 : k0_chk1 v1 v4) (k0_t2 : Fin (k0_t2_loop v1 v4).trips), ∀ a, (k0_off4 v1 v4 k0_t2) a + S256x256.size a ≤ S160000x256.size a := fun v1 v4 k0_hw1 k0_t2 => k0_hw1.2.2.2 k0_t2

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1267 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S160000x256 : Shape := ⟨2, ![160000, 256]⟩
abbrev S160000 : Shape := ⟨1, ![160000]⟩
abbrev S256x256 : Shape := ⟨2, ![256, 256]⟩
abbrev S_ : Shape := ⟨0, ![]⟩
abbrev S324000x256 : Shape := ⟨2, ![324000, 256]⟩
abbrev S160000x1 : Shape := ⟨2, ![160000, 1]⟩
abbrev S324000 : Shape := ⟨1, ![324000]⟩
abbrev S324000x1 : Shape := ⟨2, ![324000, 1]⟩
abbrev S2x180x180x5x256 : Shape := ⟨5, ![2, 180, 180, 5, 256]⟩
abbrev S2x256x5x180x180 : Shape := ⟨5, ![2, 256, 5, 180, 180]⟩

abbrev nBuf : Space → Nat
  | .hbm => 23
  | .vmem => 0
  | .smem => 0
  | _ => 0

abbrev bufTy : (tb : Table) → Fin (tcTables nBuf tb) → BufTy
  | .hbm, ⟨0, _⟩ => ⟨S160000x256, .f32⟩
  | .hbm, ⟨1, _⟩ => ⟨S160000, .i32⟩
  | .hbm, ⟨2, _⟩ => ⟨S256x256, .f32⟩
  | .hbm, ⟨3, _⟩ => ⟨S_, .f32⟩
  | .hbm, ⟨4, _⟩ => ⟨S324000x256, .f32⟩
  | .hbm, ⟨5, _⟩ => ⟨S160000x1, .i32⟩
  | .hbm, ⟨6, _⟩ => ⟨S324000x256, .f32⟩
  | .hbm, ⟨7, _⟩ => ⟨S_, .f32⟩
  | .hbm, ⟨8, _⟩ => ⟨S160000, .f32⟩
  | .hbm, ⟨9, _⟩ => ⟨S_, .f32⟩
  | .hbm, ⟨10, _⟩ => ⟨S324000, .f32⟩
  | .hbm, ⟨11, _⟩ => ⟨S160000x1, .i32⟩
  | .hbm, ⟨12, _⟩ => ⟨S324000, .f32⟩
  | .hbm, ⟨13, _⟩ => ⟨S_, .f32⟩
  | .hbm, ⟨14, _⟩ => ⟨S_, .f32⟩
  | .hbm, ⟨15, _⟩ => ⟨S324000, .f32⟩
  | .hbm, ⟨16, _⟩ => ⟨S324000, .f32⟩
  | .hbm, ⟨17, _⟩ => ⟨S324000x1, .f32⟩
  | .hbm, ⟨18, _⟩ => ⟨S324000x256, .f32⟩
  | .hbm, ⟨19, _⟩ => ⟨S324000x256, .f32⟩
  | .hbm, ⟨20, _⟩ => ⟨S324000x256, .f32⟩
  | .hbm, ⟨21, _⟩ => ⟨S2x180x180x5x256, .f32⟩
  | .hbm, ⟨22, _⟩ => ⟨S2x256x5x180x180, .f32⟩
  | _, _ => ⟨S160000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Proof.FloorDiv.lean ====
/-
  The floor division that the kernel spells with a quotient, a remainder and two signs, on words that are not negative.
-/
module

public import Idealize.ShloMosaic.Lib.Affine

@[expose] public section

namespace Cert.Hand

open Idealize.ShloMosaic

/-- The floor of `x / d` as the kernel spells it: the quotient, less one when the signs differ and the remainder is not zero. -/
def fdiv (x d : BitVec 32) : BitVec 32 :=
  Scalar.select (Scalar.andi (Scalar.cmpi .ne
      (Scalar.subi (Scalar.extui (Scalar.cmpi .sgt x 0#32)) (Scalar.extui (Scalar.cmpi .slt x 0#32)))
      (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

/-- On a word that is not negative and a positive divisor the spelling is the quotient. -/
theorem fdiv_isInt {x d : BitVec 32} {n e : ℤ} (hx : Affine.IsInt x n) (hd : Affine.IsInt d e) (hn : 0 ≤ n) (he : 0 < e)
    (hn' : n < 2 ^ 31) : Affine.IsInt (fdiv x d) (n / e) := by
  have hz : Affine.IsInt 0#32 0 := Affine.ofNat 0 ⟨rfl, by decide⟩
  have h1 : Affine.IsInt 1#32 1 := Affine.ofNat 1 ⟨rfl, by decide⟩
  have hq : Affine.IsInt (Scalar.divsi x d) (n / e) := Affine.divsi hx hd ⟨rfl, hn, he⟩
  have hr : Affine.IsInt (Scalar.remsi x d) (n % e) := Affine.remsi hx hd ⟨rfl, hn, he⟩
  have hq0 : 0 ≤ n / e := Int.ediv_nonneg hn he.le
  have hq1 : n / e ≤ n := Int.ediv_le_self _ hn
  have hs : Affine.IsInt (Scalar.subi (Scalar.divsi x d) 1#32) (n / e - 1) := Affine.subi hq h1 ⟨rfl, by omega, by omega⟩
  have hf : Affine.Fails (Scalar.andi (Scalar.cmpi .ne
      (Scalar.subi (Scalar.extui (Scalar.cmpi .sgt x 0#32)) (Scalar.extui (Scalar.cmpi .slt x 0#32)))
      (Scalar.subi (Scalar.extui (Scalar.cmpi .sgt d 0#32)) (Scalar.extui (Scalar.cmpi .slt d 0#32))))
      (Scalar.cmpi .ne (Scalar.remsi x d) 0#32)) := by
    rcases eq_or_lt_of_le hn with h0 | h0
    · subst h0
      exact Affine.andi_fails_right trivial (Affine.ne_fails hr hz (by simp))
    · refine Affine.andi_fails_left (Affine.ne_fails (ea := 1) (eb := 1) ?_ ?_ rfl) trivial
      · exact Affine.subi (Affine.extui_holds (Affine.sgt_holds hx hz h0) rfl)
          (Affine.extui_fails (Affine.slt_fails hx hz (by omega)) rfl) ⟨rfl, by decide, by decide⟩
      · exact Affine.subi (Affine.extui_holds (Affine.sgt_holds hd hz he) rfl)
          (Affine.extui_fails (Affine.slt_fails hd hz (by omega)) rfl) ⟨rfl, by decide, by decide⟩
  exact Affine.select_fails hf hs hq rfl

end Cert.Hand

end
-- ==== Proof.Count.lean ====
/-
  How many of the index words lie below a number: the left insertion points that the host computes.
-/
module

public import Idealize.ShloMosaic.Lib.Pointwise
public import Idealize.ShloMosaic.Lib.StableHlo.Predicate
public import Idealize.ShloMosaic.Lib.WordCmp
public import Idealize.ShloMosaic.Lib.Affine

@[expose] public section

noncomputable section

namespace Cert.Hand

open Idealize.ShloMosaic

/-- How many of the index words are below `v`, read signed. -/
def cnt {N : ℕ} (X : IVec ⟨1, ![N]⟩ 32) (v : ℕ) : ℕ := (Finset.univ.filter fun n : Fin N => (X (ix1 n)).toInt < (v : ℤ)).card

theorem cnt_le {N : ℕ} (X : IVec ⟨1, ![N]⟩ 32) (v : ℕ) : cnt X v ≤ N :=
  (Finset.card_le_univ _).trans (by simp)

theorem cnt_mono {N : ℕ} (X : IVec ⟨1, ![N]⟩ 32) {v w : ℕ} (h : v ≤ w) : cnt X v ≤ cnt X w := by
  refine Finset.card_le_card fun n hn => ?_
  simp only [Finset.mem_filter, Finset.mem_univ, true_and] at hn ⊢
  omega

/-- The word of a count reads, signed, as the count. -/
theorem cnt_isInt {N : ℕ} (hN : N < 2 ^ 31) (X : IVec ⟨1, ![N]⟩ 32) (v : ℕ) :
    Affine.IsInt (BitVec.ofNat 32 (cnt X v)) (cnt X v : ℕ) :=
  Affine.ofNat _ ⟨rfl, lt_of_le_of_lt (cnt_le X v) hN⟩

end Cert.Hand

end
-- ==== Proof.KernelIdeal.Trip.lean ====
/-
  One trip of the chunk loop of the kernel, and the loop's running sums and counts as a function of the trips done.
-/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.Frame
public import Idealize.ShloMosaic.Lib.Pipeline.FrameBody
public import Idealize.ShloMosaic.Lib.VecWindow

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The rows of features that trip `k` copies into the chunk buffer. -/
def chunk (arg1 : Memref sig .tc .hbm S160000x256 .f32) (v1 v4 : BitVec 32) (hw : k0_chk1 v1 v4)
    (X : BufTy.Contents (Elt F) arg1.view.ty) (k : Fin (k0_t1_loop v1 v4).trips) : Vec F S256x256 .f32 :=
  (arg1.slice (Rect.unit (s := S160000x256) (k0_off3 v1 v4 k) S256x256.size (k0_off3_inb v1 v4 hw k)) (fun _ => rfl)).view.read (Elt F) X

/-- The running sums and counts before trip `k`. -/
def acc (arg1 : Memref sig .tc .hbm S160000x256 .f32) (v1 v4 : BitVec 32) (hw : k0_chk1 v1 v4) (v22 : BitVec 32)
    (v51 v53 : Vec F S1x256x1 .i32) (X : BufTy.Contents (Elt F) arg1.view.ty) :
    ℕ → Vec F S256x256 .f32 × Vec F S256x1 .f32
  | 0 => (k0_pay1, k0_pay2)
  | k + 1 => if h : k < (k0_t1_loop v1 v4).trips then
      (k0_pay6 v1 v4 v22 v51 v53 ⟨k, h⟩ (acc arg1 v1 v4 hw v22 v51 v53 X k).1 (chunk arg1 v1 v4 hw X ⟨k, h⟩),
        k0_pay7 v1 v4 v22 v51 v53 ⟨k, h⟩ (acc arg1 v1 v4 hw v22 v51 v53 X k).2)
    else acc arg1 v1 v4 hw v22 v51 v53 X k

/-- The running sums and counts after one more trip. -/
theorem acc_succ (arg1 : Memref sig .tc .hbm S160000x256 .f32) (v1 v4 : BitVec 32) (hw : k0_chk1 v1 v4) (v22 : BitVec 32)
    (v51 v53 : Vec F S1x256x1 .i32) (X : BufTy.Contents (Elt F) arg1.view.ty) (k : Fin (k0_t1_loop v1 v4).trips) :
    acc arg1 v1 v4 hw v22 v51 v53 X (k.val + 1)
      = (k0_pay6 v1 v4 v22 v51 v53 k (acc arg1 v1 v4 hw v22 v51 v53 X k.val).1 (chunk arg1 v1 v4 hw X k),
        k0_pay7 v1 v4 v22 v51 v53 k (acc arg1 v1 v4 hw v22 v51 v53 X k.val).2) := by
  rw [acc, dif_pos k.isLt]

/-- What the loop holds between trips: the features whole, the sums and counts at `S` and `C`, the semaphore at zero,
    the chunk buffer at anything and the core's waits. -/
abbrev tripInv (c : Dev nD) (arg1 : Memref sig .tc .hbm S160000x256 .f32) (arg7 : Memref sig .tc .vmem S256x256 .f32)
    (arg8 : Memref sig .tc .vmem S256x256 .f32) (arg9 : Memref sig .tc .vmem S256x1 .f32) (arg10 : DmaSems sig S_)
    (X : BufTy.Contents (Elt F) arg1.view.ty) (S : Vec F S256x256 .f32) (C : Vec F S256x1 .f32) : sProp 𝕄 :=
  iprop((arg1.view.loc (c : Thread nD τ) ↦{fullShare} X) ∗ owns (c : Thread nD τ) arg8 fullShare S
    ∗ owns (c : Thread nD τ) arg9 fullShare C ∗ semVal ((c : Thread nD τ), SemLoc.dma arg10.sem) 0
    ∗ (∃ d, owns (c : Thread nD τ) arg7 fullShare d) ∗ (∃ W, owes (c : Thread nD τ) 0 W))

/-- One trip of the loop. -/
theorem trip (c : Dev nD) (i : grid0.Coords) (arg1 : Memref sig .tc .hbm S160000x256 .f32) (harg1 : arg1.IsWhole) (arg2 : Memref sig .tc .vmem S1x256x1 .i32) (harg2 : arg2.IsWhole) (arg3 : Memref sig .tc .vmem S1x256x1 .i32) (harg3 : arg3.IsWhole) (arg4 : Memref sig .tc .vmem S256x256 .f32) (harg4 : arg4.IsWhole) (arg5 : Memref sig .tc .smem S1267 .i32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x1 .f32) (harg9 : arg9.IsWhole) (arg10 : DmaSems sig S_) (v1 v4 : BitVec 32) (hw : k0_chk1 v1 v4) (v22 : BitVec 32) (v26 : BitVec 32) (v40 : BitVec 1) (v51 : Vec F S1x256x1 .i32) (v53 : Vec F S1x256x1 .i32)
    (X : BufTy.Contents (Elt F) arg1.view.ty) (k : Fin (k0_t1_loop v1 v4).trips) (S : Vec F S256x256 .f32) (C : Vec F S256x1 .f32) :
    tripInv c arg1 arg7 arg8 arg9 arg10 X S C
      ⊢ wp frame (wpE (defs₀ (F := F)) Variants.none (c : Thread nD τ) none) Set.univ
          (k0_t1_body (F := F) i arg1 harg1 arg2 harg2 arg3 harg3 arg4 harg4 arg5 harg5 arg6 harg6 arg7 harg7 arg8 harg8 arg9 harg9 arg10 v1 v4 hw v22 v26 v40 v51 v53 k PUnit.unit)
          (fun _ => tripInv c arg1 arg7 arg8 arg9 arg10 X (k0_pay6 v1 v4 v22 v51 v53 k S (chunk arg1 v1 v4 hw X k))
            (k0_pay7 v1 v4 v22 v51 v53 k C)) := by
  unfold tripInv owns k0_t1_body
  iintro ⟨H1, ⟨%f8, %h8, H8⟩, ⟨%f9, %h9, H9⟩, Hs, ⟨%d7, %f7, -, H7⟩, ⟨%W, HO⟩⟩
  sl_exec
  sl_step
  isplitl [H1]; · iexact H1
  isplitl [H8]
  · iexists _; isplitr; swap; · iexact H8
    ipureintro
    rw [View.read_writes_full, View.readAt_full, h8]
    congr 1
    unfold trip.sl.v88
    show arg7.view.readAt (Elt F) _ (arg7.view.writes (Elt F) arg7.view.junk _) = _
    rw [View.readAt_full, View.read_writes_whole]
    rfl
  isplitl [H9]
  · iexists _; isplitr; swap; · iexact H9
    ipureintro
    rw [View.read_writes_full, View.readAt_full, h9]
  isplitl [Hs]; · iexact Hs
  isplitl [H7]
  · iexists _, _; isplitr; swap; · iexact H7
    ipureintro; rfl
  iexists _; iexact HO

end Cert.KernelIdeal.Hand

end
-- ==== Proof.KernelIdeal.Body.lean ====
/-
  The kernel's body at one grid point: from the staged blocks to the block of results.
-/
module

public import proofs.«01_k».proof.Proof.KernelIdeal.Trip
public import proofs.«01_k».proof.Proof.FloorDiv
public import Idealize.ShloMosaic.Lib.LoopRemainder

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The word of the boundary table that the body reads first. -/
def word1 (i : grid0.Coords) (X5 : Vec F S1267 .i32) : BitVec 32 := X5 ((Rect.unit (s := S1267) (k0_off1 i) S1.size (k0_off1_inb i)).emb (Shape.Idx.first (numel1_S1.symm ▸ Nat.one_pos)))
/-- The word of the boundary table that the body reads second. -/
def word2 (i : grid0.Coords) (X5 : Vec F S1267 .i32) : BitVec 32 := X5 ((Rect.unit (s := S1267) (k0_off2 i) S1.size (k0_off2_inb i)).emb (Shape.Idx.first (numel1_S1.symm ▸ Nat.one_pos)))

/-- The first row that the body's chunks cover, from the first boundary word: the kernel's own word arithmetic. -/
def baseW (v1 : BitVec 32) : BitVec 32 := Scalar.muli (Cert.Hand.fdiv v1 8#32) 8#32

/-- The block of results that the body stores, from the blocks it is given. -/
def res (i : grid0.Coords) (arg1 : Memref sig .tc .hbm S160000x256 .f32) (X : BufTy.Contents (Elt F) arg1.view.ty)
    (X2 X3 : Vec F S1x256x1 .i32) (X4 : Vec F S256x256 .f32) (X5 : Vec F S1267 .i32)
    (hchk : k0_chk1 (word1 i X5) (word2 i X5)) : Vec F S256x256 .f32 :=
  k0_pay11
    (acc arg1 (word1 i X5) (word2 i X5) hchk (baseW (word1 i X5)) X2 X3 X (k0_t1_loop (word1 i X5) (word2 i X5)).trips).1
    (acc arg1 (word1 i X5) (word2 i X5) hchk (baseW (word1 i X5)) X2 X3 X (k0_t1_loop (word1 i X5) (word2 i X5)).trips).2 X4

/-- The body on its staged blocks, the scratch buffers at anything and the features whole runs to the continuation
    holding the same with the result block at `res`. -/
theorem bodyRun (c : Dev nD) (i : grid0.Coords) (arg1 : Memref sig .tc .hbm S160000x256 .f32) (harg1 : arg1.IsWhole) (arg2 : Memref sig .tc .vmem S1x256x1 .i32) (harg2 : arg2.IsWhole) (arg3 : Memref sig .tc .vmem S1x256x1 .i32) (harg3 : arg3.IsWhole) (arg4 : Memref sig .tc .vmem S256x256 .f32) (harg4 : arg4.IsWhole) (arg5 : Memref sig .tc .smem S1267 .i32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x1 .f32) (harg9 : arg9.IsWhole) (arg10 : DmaSems sig S_)
    (X : BufTy.Contents (Elt F) arg1.view.ty) (X2 X3 : Vec F S1x256x1 .i32) (X4 : Vec F S256x256 .f32) (X5 : Vec F S1267 .i32)
    (hchk : k0_chk1 (word1 i X5) (word2 i X5)) (W : Waits sig Unit) (K : PUnit → sProp 𝕄) :
    iprop(owns (c : Thread nD τ) arg2 fullShare X2 ∗ owns (c : Thread nD τ) arg3 fullShare X3 ∗ owns (c : Thread nD τ) arg4 fullShare X4
        ∗ owns (c : Thread nD τ) arg5 fullShare X5 ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ semVal ((c : Thread nD τ), SemLoc.dma arg10.sem) 0 ∗ (arg1.view.loc (c : Thread nD τ) ↦{fullShare} X) ∗ owes (c : Thread nD τ) 0 W
        ∗ (iprop(owns (c : Thread nD τ) arg2 fullShare X2 ∗ owns (c : Thread nD τ) arg3 fullShare X3 ∗ owns (c : Thread nD τ) arg4 fullShare X4
          ∗ owns (c : Thread nD τ) arg5 fullShare X5 ∗ owns (c : Thread nD τ) arg6 fullShare (res i arg1 X X2 X3 X4 X5 hchk)
          ∗ (∃ d, owns (c : Thread nD τ) arg7 fullShare d) ∗ (∃ d, owns (c : Thread nD τ) arg8 fullShare d) ∗ (∃ d, owns (c : Thread nD τ) arg9 fullShare d)
          ∗ semVal ((c : Thread nD τ), SemLoc.dma arg10.sem) 0 ∗ (arg1.view.loc (c : Thread nD τ) ↦{fullShare} X) ∗ (∃ W', owes (c : Thread nD τ) 0 W')) -∗ K ⟨⟩))
      ⊢ wp frame (wpE (defs₀ (F := F)) Variants.none (c : Thread nD τ) none) Set.univ
          (cc0__body (F := F) i arg1 harg1 arg2 harg2 arg3 harg3 arg4 harg4 arg5 harg5 arg6 harg6 arg7 harg7 arg8 harg8 arg9 harg9 arg10) K := by
  rw [cc0__body_eq_skeleton]
  unfold cc0__body_skel owns
  iintro ⟨⟨%f2, %h2, H2⟩, ⟨%f3, %h3, H3⟩, ⟨%f4, %h4, H4⟩, ⟨%f5, %h5, H5⟩, ⟨%d6, %f6, -, H6⟩, ⟨%d7, %f7, -, H7⟩,
    ⟨%d8, %f8, -, H8⟩, ⟨%d9, %f9, -, H9⟩, Hs, H1, HO, Hk⟩
  have hc : k0_chk1 (arg5.view.readAt (Elt F) (Rect.unit (s := S1267) (k0_off1 i) S1.size (k0_off1_inb i)).toLoadRect f5 (Shape.Idx.first (numel1_S1.symm ▸ Nat.one_pos)))
      (arg5.view.readAt (Elt F) (Rect.unit (s := S1267) (k0_off2 i) S1.size (k0_off2_inb i)).toLoadRect f5 (Shape.Idx.first (numel1_S1.symm ▸ Nat.one_pos))) := by
    subst h5; exact hchk
  sl_exec
  ihave H8' := (show _ ⊢ owns (c : Thread nD τ) arg8 fullShare (k0_pay1 (F := F)) from by
    unfold owns; iintro H; iexists _; isplitr; swap; · iexact H
    ipureintro; unfold bodyRun.sl.H8_1; exact View.read_writes_full _ _ _ _ _) $$ H8
  ihave H9' := (show _ ⊢ owns (c : Thread nD τ) arg9 fullShare (k0_pay2 (F := F)) from by
    unfold owns; iintro H; iexists _; isplitr; swap; · iexact H
    ipureintro; unfold bodyRun.sl.H9_1; exact View.read_writes_full _ _ _ _ _) $$ H9
  rw [View.readAt_full, View.readAt_full, h2, h3]
  have hc' : k0_chk1 (bodyRun.sl.r c i arg5 f5) (bodyRun.sl.r_1 c i arg5 f5) := hc
  sl_for (fun k (_ : Unit) => tripInv c arg1 arg7 arg8 arg9 arg10 X
    (acc arg1 (bodyRun.sl.r c i arg5 f5) (bodyRun.sl.r_1 c i arg5 f5) hc' (bodyRun.sl.v22 c i arg5 f5) X2 X3 X k).1
    (acc arg1 (bodyRun.sl.r c i arg5 f5) (bodyRun.sl.r_1 c i arg5 f5) hc' (bodyRun.sl.v22 c i arg5 f5) X2 X3 X k).2) $$ [H1 H8' H9' Hs H7 HO]
  · intro k a
    rw [acc_succ]
    exact trip c i arg1 harg1 arg2 harg2 arg3 harg3 arg4 harg4 arg5 harg5 arg6 harg6 arg7 harg7 arg8 harg8 arg9 harg9 arg10 _ _ hc' _ _ _ X2 X3 X k _ _
  · isplitl [H1]; · iexact H1
    isplitl [H8']; · iexact H8'
    isplitl [H9']; · iexact H9'
    isplitl [Hs]; · iexact Hs
    isplitl [H7]
    · iexists _; unfold owns; iexists _; isplitr; swap; · iexact H7
      ipureintro; rfl
    iexists _; iexact HO
  unfold tripInv owns
  iintro %a ⟨H1, ⟨%f8', %h8', H8⟩, ⟨%f9', %h9', H9⟩, Hs, ⟨%d7', %f7', -, H7⟩, ⟨%W', HO⟩⟩
  sl_exec
  sl_step
  iapply Hk
  isplitl [H2]; · iexists _; isplitr; swap; · iexact H2
                  ipureintro; exact h2
  isplitl [H3]; · iexists _; isplitr; swap; · iexact H3
                  ipureintro; exact h3
  isplitl [H4]; · iexists _; isplitr; swap; · iexact H4
                  ipureintro; exact h4
  isplitl [H5]; · iexists _; isplitr; swap; · iexact H5
                  ipureintro; exact h5
  isplitl [H6]
  · iexists _; isplitr; swap; · iexact H6
    ipureintro
    rw [View.read_writes_full]
    unfold bodyRun.sl.r_2
    rw [View.readAt_full, View.readAt_full, View.readAt_full, h4, h8', h9']
    subst h5
    rfl
  isplitl [H7]; · iexists _; iexists _; isplitr; swap; · iexact H7
                  ipureintro; rfl
  isplitl [H8]; · iexists _; iexists _; isplitr; swap; · iexact H8
                  ipureintro; rfl
  isplitl [H9]; · iexists _; iexists _; isplitr; swap; · iexact H9
                  ipureintro; rfl
  isplitl [Hs]; · iexact Hs
  isplitl [H1]; · iexact H1
  iexists _; iexact HO

end Cert.KernelIdeal.Hand

end
-- ==== Proof.KernelIdeal.Host.lean ====
/-
  What the host lines before the region leave in the pipeline's arrays: the left insertion points of the numbers
  0, …, 324096 among the index words, once per number (the blocks of lower and of upper ends) and once per 256 numbers
  (the boundary table).
-/
module

public import proofs.«01_k».proof.Proof.Gen.KernelIdeal.Frame
public import proofs.«01_k».proof.Proof.Count
public import Idealize.ShloMosaic.Lib.StableHlo.Run
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Hand

variable {F : FTy → Type} [FloatOps F]
variable (m : (ℓ : Loc nD τ sig) → Buf (Elt F) ℓ)

/-- The index words as launched. -/
abbrev idx (c : Dev nD) : IVec S160000 32 := m ((c : Thread nD τ).loc main_arg1)

/-- A word is below a small number, read signed. -/
theorem cmpi_slt_iff_toInt {x : BitVec 32} {v : ℕ} (hv : v < 324097) :
    IntOp.cmpi .slt x (BitVec.ofNat 32 v) = 1#1 ↔ x.toInt < (v : ℤ) := by
  have e : (BitVec.ofNat 32 v).toInt = v := by
    rw [BitVec.toInt_ofNat']
    exact Int.bmod_eq_of_le (by omega) (by omega)
  change BitVec.ofBool (decide (x.toInt < (BitVec.ofNat 32 v).toInt)) = 1#1 ↔ _
  rw [e]
  by_cases h : x.toInt < (v : ℤ) <;> simp [h]

/-- The last stretch of host lines acts on what the first two leave. -/
theorem V_split (c : Dev nD) (b : Ref sig .tc) :
    V m c b = StableHlo.after hostOps0_2 (StableHlo.after hostOps0_1 (StableHlo.after hostOps0 (fun b => m (c, b)))) (Proc.devRef .tc b) := by
  unfold V V0
  rw [← StableHlo.after_append, ← StableHlo.after_append]
  rfl

/-- Entry `v` of the host's search is the insertion point of `v`. -/
theorem V_v1 (c : Dev nD) (j : S324097.Idx) : (V m c main_v1 : IVec S324097 32) j = BitVec.ofNat 32 (cnt (idx m c) (j 0).val) := by
  have e : (V m c main_v1 : IVec S324097 32) = Host.reduce IntOp.addi (extui 32 (cmpi .slt
      (broadcastInDim S160000x324097 ![0, 1] bcast_S160000x1_S160000x324097_0_1 (broadcastInDim S160000x1 ![0] bcast_S160000_S160000x1_0 (idx m c)))
      (broadcastInDim S160000x324097 ![0, 1] bcast_S1x324097_S160000x324097_0_1 (broadcastInDim S1x324097 ![1] bcast_S324097_S1x324097_1 (iotaInDim S324097 32 0)))) natLt_1_32)
      (constantI S_ 32 0#32) reducesTo_S160000x324097_S324097_d0 h_S_ := by
    rw [V_split]
    after_results
    simp only [StableHlo.TRef.ofBuf_toBuf]
    simp only [StableHlo.TRef.ofBuf, StableHlo.TRef.toBuf, cast_eq]
  rw [e]
  apply BitVec.eq_of_toNat_eq
  rw [StableHlo.Predicate.toNat_reduce_count_rows (n := 160000) (m := 324097) (by norm_num) _ natLt_1_32 reducesTo_S160000x324097_S324097_d0 h_S_ j, BitVec.toNat_ofNat,
    Nat.mod_eq_of_lt (lt_of_le_of_lt (cnt_le _ _) (by norm_num))]
  unfold cnt
  refine congrArg Finset.card (Finset.filter_congr fun n _ => ?_)
  have hj : (j 0).val < 324097 := (j 0).isLt
  pointwise
  show IntOp.cmpi .slt (idx m c (ix1 n)) (BitVec.ofNat 32 (j 0).val) = 1#1 ↔ _
  rw [cmpi_slt_iff_toInt hj]

/-- The boundary table: entry `t` is the insertion point of `256 t`. -/
theorem V_v6 (c : Dev nD) (j : S1267.Idx) : (V m c main_v6 : IVec S1267 32) j = BitVec.ofNat 32 (cnt (idx m c) (256 * (j 0).val)) := by
  have e : (V m c main_v6 : IVec S1267 32) = Host.slice S1267 ![0] ![256] (V m c main_v1 : IVec S324097 32) slicesBy_S324097_S1267_0s256 := by
    rw [V_split, V_split]
    generalize StableHlo.after hostOps0_1 _ = W
    after_results
  rw [e]
  pointwise
  rw [V_v1]
  congr 2

/-- The block of lower ends: entry `(t, r)` is the insertion point of `256 t + r`. -/
theorem V_v3 (c : Dev nD) (j : S1266x256x1.Idx) :
    (V m c main_v3 : IVec S1266x256x1 32) j = BitVec.ofNat 32 (cnt (idx m c) (256 * (j 0).val + (j 1).val)) := by
  have e : (V m c main_v3 : IVec S1266x256x1 32) = shapeCast S1266x256x1
      (extractStridedSlice S324096 ![0] (V m c main_v1 : IVec S324097 32) slices_S324097_S324096_0) shapeCasts_S324096_S1266x256x1 := by
    rw [V_split, V_split]
    generalize StableHlo.after hostOps0_1 _ = W
    after_results
    rfl
  rw [e]
  idx_vars j
  pointwise
  rw [V_v1]
  congr 2
  simp only [ix1_0]
  try omega

/-- The block of upper ends: entry `(t, r)` is the insertion point of `256 t + r + 1`. -/
theorem V_v5 (c : Dev nD) (j : S1266x256x1.Idx) :
    (V m c main_v5 : IVec S1266x256x1 32) j = BitVec.ofNat 32 (cnt (idx m c) (256 * (j 0).val + (j 1).val + 1)) := by
  have e : (V m c main_v5 : IVec S1266x256x1 32) = shapeCast S1266x256x1
      (extractStridedSlice S324096 ![1] (V m c main_v1 : IVec S324097 32) slices_S324097_S324096_1) shapeCasts_S324096_S1266x256x1 := by
    rw [V_split, V_split]
    generalize StableHlo.after hostOps0_1 _ = W
    after_results
    rfl
  rw [e]
  idx_vars j
  pointwise
  rw [V_v1]
  congr 2
  simp only [ix1_0]
  try omega

end Cert.KernelIdeal.Hand

end
-- ==== Proof.KernelIdeal.Words.lean ====
/-
  The word arithmetic of the loop's bounds and of the copied window's offsets, in numbers: from two boundary words
  `a ≤ b ≤ 160000` the loop makes `⌈(b - 8⌊a/8⌋) / 256⌉` trips and every window lies inside the features.
-/
module

public import proofs.«01_k».proof.Proof.KernelIdeal.Body

@[expose] public section

set_option maxRecDepth 8192

noncomputable section

namespace Cert.KernelIdeal.Hand

open Cert.KernelIdeal Cert.KernelIdeal.Gen
open Idealize.ShloMosaic
open Cert.Hand (fdiv fdiv_isInt)

/-- How many chunks the loop reads for boundaries `a` and `b`. -/
abbrev nch (a b : ℕ) : ℕ := (b - 8 * (a / 8) + 255) / 256

section
variable {v1 v4 : BitVec 32} {a b : ℕ}

theorem baseW_isInt (h1 : Affine.IsInt v1 a) (ha : a ≤ 160000) : Affine.IsInt (baseW v1) (8 * (a / 8) : ℕ) := by
  have h8 : Affine.IsInt 8#32 8 := Affine.ofNat 8 ⟨rfl, by decide⟩
  exact Affine.muli (fdiv_isInt h1 h8 (by omega) (by decide) (by omega)) h8 ⟨by push_cast; omega, by omega, by omega⟩

/-- The words of the main loop: from 0 by 1 to the number of chunks. -/
theorem t1_isInt (h1 : Affine.IsInt v1 a) (h4 : Affine.IsInt v4 b) (hab : a ≤ b) (hb : b ≤ 160000) :
    Affine.IsInt (k0_t1_loop v1 v4).ub (nch a b : ℕ) := by
  have h256 : Affine.IsInt 256#32 256 := Affine.ofNat 256 ⟨rfl, by decide⟩
  have hz : Affine.IsInt 0#32 0 := Affine.ofNat 0 ⟨rfl, by decide⟩
  have hone : Affine.IsInt 1#32 1 := Affine.ofNat 1 ⟨rfl, by decide⟩
  have hbase := baseW_isInt h1 (by omega)
  have h23 : Affine.IsInt (Scalar.subi v4 (baseW v1)) (b - 8 * (a / 8) : ℕ) := Affine.subi h4 hbase ⟨by omega, by omega, by omega⟩
  have h24 : Affine.IsInt (Scalar.addi (Scalar.subi v4 (baseW v1)) 256#32) (b - 8 * (a / 8) + 256 : ℕ) :=
    Affine.addi h23 h256 ⟨by omega, by omega, by omega⟩
  have h25 : Affine.IsInt (Scalar.subi (Scalar.addi (Scalar.subi v4 (baseW v1)) 256#32) 1#32) (b - 8 * (a / 8) + 255 : ℕ) :=
    Affine.subi h24 hone ⟨by omega, by omega, by omega⟩
  have h42 := fdiv_isInt h25 h256 (by omega) (by decide) (by omega)
  have h55 : Affine.IsInt (Scalar.subi _ 0#32) (nch a b : ℕ) := Affine.subi h42 hz ⟨by unfold nch; omega, by unfold nch; omega, by unfold nch; omega⟩
  have h57 : Affine.IsInt _ (nch a b : ℕ) := Affine.divsi_one h55 hone ⟨rfl, rfl⟩
  have h58 : Affine.IsInt _ (nch a b : ℕ) := Affine.muli h57 hone ⟨by omega, by omega, by unfold nch; omega⟩
  have h59 : Affine.IsInt _ (nch a b : ℕ) := Affine.addi hz h58 ⟨by omega, by omega, by unfold nch; omega⟩
  exact h59

theorem t1_trips (h1 : Affine.IsInt v1 a) (h4 : Affine.IsInt v4 b) (hab : a ≤ b) (hb : b ≤ 160000) :
    (k0_t1_loop v1 v4).trips = nch a b :=
  Affine.trips_eq (lb := 0#32) (st := 1#32) (Affine.ofNat 0 ⟨rfl, by decide⟩) (t1_isInt h1 h4 hab hb) (Affine.ofNat 1 ⟨rfl, by decide⟩) _
    ⟨by decide, by omega⟩

/-- The row at which chunk `k` starts. -/
theorem row_isInt (h1 : Affine.IsInt v1 a) (ha : a ≤ 160000) (k : ℕ) (hk : k ≤ 700) :
    Affine.IsInt (Scalar.addi (baseW v1) (Scalar.muli (Scf.iv 0#32 1#32 k) 256#32)) (8 * (a / 8) + 256 * k : ℕ) := by
  have hz : Affine.IsInt 0#32 0 := Affine.ofNat 0 ⟨rfl, by decide⟩
  have hone : Affine.IsInt 1#32 1 := Affine.ofNat 1 ⟨rfl, by decide⟩
  have h256 : Affine.IsInt 256#32 256 := Affine.ofNat 256 ⟨rfl, by decide⟩
  have hi : Affine.IsInt (Scf.iv 0#32 1#32 k) (k : ℤ) := Affine.iv hz hone k ⟨by omega, by omega, by omega⟩
  have hm : Affine.IsInt (Scalar.muli (Scf.iv 0#32 1#32 k) 256#32) (256 * k : ℕ) := Affine.muli hi h256 ⟨by omega, by omega, by omega⟩
  exact Affine.addi (baseW_isInt h1 ha) hm ⟨by omega, by omega, by omega⟩

/-- The row at which chunk `k`'s window starts: the same held inside the features. -/
theorem win_isInt (h1 : Affine.IsInt v1 a) (ha : a ≤ 160000) (k : ℕ) (hk : k ≤ 700) :
    Affine.IsInt (Scalar.minsi (Scalar.addi (baseW v1) (Scalar.muli (Scf.iv 0#32 1#32 k) 256#32)) 159744#32)
      (min (8 * (a / 8) + 256 * k) 159744 : ℕ) :=
  Affine.minsi (row_isInt h1 ha k hk) (Affine.ofNat 159744 (e := 159744) ⟨rfl, by decide⟩) (by push_cast; omega)

theorem off3_eq (h1 : Affine.IsInt v1 a) (h4 : Affine.IsInt v4 b) (hab : a ≤ b) (hb : b ≤ 160000) (k : Fin (k0_t1_loop v1 v4).trips) :
    k0_off3 v1 v4 k = ![min (8 * (a / 8) + 256 * k.val) 159744, 0] := by
  have hk : k.val ≤ 700 := by
    have := k.isLt; have e := t1_trips h1 h4 hab hb; unfold nch at e; omega
  exact Affine.vec_cons (win_isInt h1 (by omega) k.val hk) (by rfl) rfl

theorem chk_of (h1 : Affine.IsInt v1 a) (h4 : Affine.IsInt v4 b) (hab : a ≤ b) (hb : b ≤ 160000) : k0_chk1 v1 v4 := by
  refine ⟨?_, ?_, Scf.rem_ok _ _, fun k => (Scf.rem_no_trip _ _ k).elim⟩
  · exact Affine.ok (lb := 0#32) (st := 1#32) (Affine.ofNat 0 ⟨rfl, by decide⟩) (t1_isInt h1 h4 hab hb) (Affine.ofNat 1 ⟨rfl, by decide⟩)
      ⟨by decide, by unfold nch; omega⟩
  · intro k
    rw [off3_eq h1 h4 hab hb]
    intro x
    fin_cases x
    · show min (8 * (a / 8) + 256 * k.val) 159744 + 256 ≤ 160000
      omega
    · show 0 + 256 ≤ 256
      omega

end

end Cert.KernelIdeal.Hand

end
-- ==== Proof.KernelIdeal.Check.lean ====
/-
  The two boundary words that a grid point reads are the insertion points of `256 t` and of `256 t + 256`, so the check
  the body makes on them holds at every point of every launch.
-/
module

public import proofs.«01_k».proof.Proof.KernelIdeal.Host
public import proofs.«01_k».proof.Proof.KernelIdeal.Words
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Hand

variable {F : FTy → Type} [FloatOps F]
variable (m : (ℓ : Loc nD τ sig) → Buf (Elt F) ℓ)

theorem coord_lt (i : grid0.Coords) : (i 0).val < 1266 := (i 0).isLt

theorem off1_eq (i : grid0.Coords) : k0_off1 i = ![(i 0).val] := by
  have := coord_lt i
  exact Affine.vec_cons (Affine.indexCast (Affine.ofNat _ ⟨rfl, by omega⟩)) rfl rfl

theorem off2_eq (i : grid0.Coords) : k0_off2 i = ![(i 0).val + 1] := by
  have := coord_lt i
  exact Affine.vec_cons (Affine.indexCast (Affine.addi (Affine.ofNat _ ⟨rfl, by omega⟩) (Affine.ofNat 1 ⟨rfl, by decide⟩) ⟨rfl, by omega, by omega⟩))
    (by push_cast; rfl) rfl

theorem word1_eq (i : grid0.Coords) (X5 : Vec F S1267 .i32) : word1 i X5 = X5 (ix1 ⟨(i 0).val, by have := coord_lt i; omega⟩) := by
  unfold word1
  congr 1
  funext a
  fin_cases a
  apply Fin.ext
  simp [Rect.emb, Rect.unit, off1_eq]

theorem word2_eq (i : grid0.Coords) (X5 : Vec F S1267 .i32) : word2 i X5 = X5 (ix1 ⟨(i 0).val + 1, by have := coord_lt i; omega⟩) := by
  unfold word2
  congr 1
  funext a
  fin_cases a
  apply Fin.ext
  simp [Rect.emb, Rect.unit, off2_eq]

/-- The grid has 1266 points. -/
theorem N_eq : grid0.N = 1266 := by decide

/-- The grid's one coordinate at point `t` is `t`. -/
theorem coords_val (t : Fin grid0.N) : (grid0.coords t 0).val = t.val := by
  have h := Pipeline.Grid.coords_val t 0 (S := 1) (B := 1266) (by decide) rfl
  have := lt_of_lt_of_eq t.isLt N_eq
  omega

theorem coord_toNat (t : Fin grid0.N) : (BitVec.ofNat 32 (grid0.coords t 0).val).toNat = t.val := by
  have := coord_lt (grid0.coords t)
  rw [BitVec.toNat_ofNat, coords_val, Nat.mod_eq_of_lt (by rw [← coords_val]; omega)]

theorem win0_0_index (t : Fin grid0.N) : win0_0.index t = ![t.val, 0, 0] := by
  show ![(BitVec.ofNat 32 (grid0.coords t 0).val).toNat, 0, 0] = _
  rw [coord_toNat]
theorem win0_1_index (t : Fin grid0.N) : win0_1.index t = ![t.val, 0, 0] := by
  show ![(BitVec.ofNat 32 (grid0.coords t 0).val).toNat, 0, 0] = _
  rw [coord_toNat]
theorem win0_2_index (t : Fin grid0.N) : win0_2.index t = ![0, 0] := rfl
theorem win0_3_index (t : Fin grid0.N) : win0_3.index t = ![0] := rfl
theorem win0_4_index (t : Fin grid0.N) : win0_4.index t = ![t.val, 0] := by
  show ![(BitVec.ofNat 32 (grid0.coords t 0).val).toNat, 0] = _
  rw [coord_toNat]

/-- The boundary window's block of a table is the table, whatever the point. -/
theorem read3 (t : Fin grid0.N) (Z : Vec F S1267 .i32) : ((win0_3.blk t).view.read (Elt F) Z : Vec F S1267 .i32) = Z := by
  funext y
  show Z ((win0_3.blk t).view.emb y) = Z y
  congr 1
  blk_ext! [win0_3_index t]

/-- The boundary block is the boundary table, whatever the point. -/
theorem iblk3_eq (c : Dev nD) (t : Fin cfg0.N) : (iblk m c 3 t : Vec F S1267 .i32) = V m c main_v6 := by
  unfold iblk
  exact read3 t _

/-- The two ends of the run of rows that point `i` covers. -/
abbrev lo (c : Dev nD) (i : grid0.Coords) : ℕ := cnt (idx m c) (256 * (i 0).val)
abbrev hi (c : Dev nD) (i : grid0.Coords) : ℕ := cnt (idx m c) (256 * ((i 0).val + 1))

theorem word1_isInt (c : Dev nD) (i : grid0.Coords) (t : Fin cfg0.N) : Affine.IsInt (word1 i (iblk m c 3 t : Vec F S1267 .i32)) (lo m c i : ℕ) := by
  rw [iblk3_eq, word1_eq]
  have e := V_v6 m c (ix1 ⟨(i 0).val, by have := coord_lt i; omega⟩)
  rw [e]
  exact cnt_isInt (by norm_num) _ _

theorem word2_isInt (c : Dev nD) (i : grid0.Coords) (t : Fin cfg0.N) : Affine.IsInt (word2 i (iblk m c 3 t : Vec F S1267 .i32)) (hi m c i : ℕ) := by
  rw [iblk3_eq, word2_eq]
  have e := V_v6 m c (ix1 ⟨(i 0).val + 1, by have := coord_lt i; omega⟩)
  rw [e]
  exact cnt_isInt (by norm_num) _ _

theorem lo_le_hi (c : Dev nD) (i : grid0.Coords) : lo m c i ≤ hi m c i := cnt_mono _ (by omega)
theorem hi_le (c : Dev nD) (i : grid0.Coords) : hi m c i ≤ 160000 := cnt_le _ _

/-- The check holds. -/
theorem chk (c : Dev nD) (i : grid0.Coords) (t : Fin cfg0.N) :
    k0_chk1 (word1 i (iblk m c 3 t : Vec F S1267 .i32)) (word2 i (iblk m c 3 t : Vec F S1267 .i32)) :=
  chk_of (word1_isInt m c i t) (word2_isInt m c i t) (lo_le_hi m c i) (hi_le m c i)

end Cert.KernelIdeal.Hand

end
-- ==== Proof.KernelIdeal.Run.lean ====
/-
  The launch: what the host lines leave, the grid of bodies, the host lines after it. Every execution ends, the three
  arguments keep their contents, and the semaphores end at zero.
-/
module

public import proofs.«01_k».proof.Proof.KernelIdeal.Body
public import proofs.«01_k».proof.Proof.KernelIdeal.Check

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## @main around the region, at this algebra -/

set_option maxHeartbeats 800000 in
/-- @main is the host lines before the region, the region, and the host lines after it. -/
theorem main_around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-! ## The body's operands outside the pipeline -/

/-- The body's one transfer cell. -/
abbrev cell0 : Fin 1 → SemLoc sig := fun _ => SemLoc.dma 8
theorem cell0_facts : Pipeline.OwnSemFacts spec0 cell0 := by decide
theorem cell0_eq (c : Dev nD) :
    (Pipeline.ownSems0 (Ix := Unit) (Name := ℕ) (U := Pipeline.UD sig nD τ) (Lvl := ℕ) (Val := Elt F) (τ := τ) cell0 c : sProp 𝕄)
      = iprop(semVal ((c : Thread nD τ), SemLoc.dma 8) 0) := by
  rw [Pipeline.ownSems0_eq_of_list c cell0 [0] (by decide) (by decide)]; rfl

/-- The table of features, which the body's transfers read where it lies. -/
def feats : Finset (Ref sig .tc) := {main_arg0}
theorem feats_sub : feats ⊆ Pipeline.restRefs sig spec0 := by decide
theorem feats_eq (c : Dev nD) :
    (bigSep feats (fun b => ((c : Thread nD τ).loc b) ↦{fullShare} V m c b) : sProp 𝕄)
      = iprop(((c : Thread nD τ).loc main_arg0) ↦{fullShare} V m c main_arg0) := by
  rw [BI.bigSep_eq_bigSepL_of_eq [main_arg0] (by decide) (by decide)]; rfl

/-- What the body keeps between points: its three scratch buffers at any contents, the random register, its cell at zero,
    and the table of features as launched. -/
theorem inv_eq (c : Dev nD) :
    (Pipeline.ΦD cell0 spec0 feats (V m) c : sProp 𝕄)
      = iprop(iprop((∃ d, owns (c : Thread nD τ) (Memref.whole cc0_scratch0) fullShare d) ∗ (∃ d, owns (c : Thread nD τ) (Memref.whole cc0_scratch1) fullShare d)
                ∗ (∃ d, owns (c : Thread nD τ) (Memref.whole cc0_scratch2) fullShare d))
          ∗ (∃ r, prngReg c r)
          ∗ iprop(semVal ((c : Thread nD τ), SemLoc.dma 8) 0)
          ∗ iprop(((c : Thread nD τ).loc main_arg0) ↦{fullShare} V m c main_arg0)) := by
  rw [Pipeline.ΦD_eq, scopedRest0_eq, cell0_eq, feats_eq]
  simp only [owns_whole]; try rfl

/-! ## The proof data -/

/-- The block of results the body leaves at point `t`. -/
def blockOut (c : Dev nD) (t : Fin cfg0.N) : Vec F S256x256 .f32 :=
  res (grid0.coords t) (Memref.whole main_arg0) (V m c main_arg0) (iblk m c 0 t) (iblk m c 1 t) (iblk m c 2 t) (iblk m c 3 t) (chk m c (grid0.coords t) t)

/-- The proof data of the pipeline on core `c`: the arrays as the region finds them, each input block left in place, the
    result's block as the body leaves it, nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockOut m c t
  Φ _ := Pipeline.ΦD cell0 spec0 feats (V m) c
  q _ := fullShare
  owed _ := 0

theorem dats_A (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = blockOut m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [dats_A]) t d).trans
    (by unfold Dat.fetched Dat.blockOf iblk; rw [dats_A]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [dats_A]) t d).trans
    (by unfold Dat.fetched Dat.blockOf iblk; rw [dats_A]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [dats_A]) t d).trans
    (by unfold Dat.fetched Dat.blockOf iblk; rw [dats_A]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [dats_A]) t d).trans
    (by unfold Dat.fetched Dat.blockOf iblk; rw [dats_A]; try rfl)

/-! ## One point -/

/-- What point `t`'s body is entered with. -/
def entered (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
/-- What point `t`'s body leaves. -/
def left (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem point (c : Dev nD) (t : Fin cfg0.N) :
    entered m c t ⊢ wp frame (wpE (defs₀ (F := F)) Variants.none c none) Set.univ (bodyAt0 t) (fun _ => left m c t) := by
  unfold entered left bodyAt0
  rw [show (dats m 0 c).Φ t.succ = (dats m 0 c).Φ t.castSucc from rfl, after_0, after_1, after_2, after_3, after_4]
  rw [show (dats m 0 c).Φ t.castSucc = Pipeline.ΦD cell0 spec0 feats (V m) c from rfl, inv_eq]
  unfold Dat.owesAt Pipeline.owesWithin
  rw [show (dats m 0 c).owed t.castSucc = 0 from rfl, show (dats m 0 c).owed t.succ = 0 from rfl]
  simp only [before_0, before_1, before_2, before_3]
  unfold blockOut
  iintro ⟨⟨⟨HS0, HS1, HS2⟩, Hg, Hq, Hh⟩, ⟨%W, -, HW⟩, ⟨%d0, H0⟩, ⟨%d1, H1⟩, ⟨%d2, H2⟩, ⟨%d3, H3⟩, ⟨%d4, H4⟩⟩
  iapply (bodyRun c (grid0.coords t) (Memref.whole main_arg0) (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _) cc0_scratch3
    (V m c main_arg0) (iblk m c 0 t) (iblk m c 1 t) (iblk m c 2 t) (iblk m c 3 t) (chk m c (grid0.coords t) t) W _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [Hq]; · iexact Hq
  isplitl [Hh]; · iexact Hh
  isplitl [HW]; · iexact HW
  iintro ⟨H0, H1, H2, H3, H4, HS0, HS1, HS2, Hq, Hh, ⟨%W', HW'⟩⟩
  isplitl [HS0 HS1 HS2 Hg Hq Hh]
  · isplitl [HS0 HS1 HS2]
    · isplitl [HS0]; · iexact HS0
      isplitl [HS1]; · iexact HS1
      iexact HS2
    isplitl [Hg]; · iexact Hg
    isplitl [Hq]; · iexact Hq
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

theorem row_eq (t : Fin cfg0.N) :
    defs₀ (F := F) .tc cfg0.body (cfg0.bodyArgs t (cfg0.slots t)) = bodyAt0 t := by
  unfold defs₀; rw [Defs.onTc_tc]

/-- Every point's body meets the pipeline's obligation. -/
theorem obligation (c : Dev nD) : BodyObligation (dats (F := F) m 0 c) (defs₀ (F := F)) Variants.none () Set.univ := fun t => by
  rw [bigSep_W0, bigSep_W0, row_eq]
  exact triple_restated (point m c t) rfl .rfl fun _ => .rfl

/-! ## The run -/

/-- The host lines after the region read neither the table of features nor anything that is not theirs to read. -/
theorem tail_sub : ∀ ops ∈ ([hostOps1] : List (List (HloOp τ sig (Elt F)))), ∀ op ∈ ops,
    op.bufs ⊆ Pipeline.tailRefsBut sig Pipeline.Prefetch.none spec0 feats := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  intro b hb
  simp only [feats, Finset.mem_singleton] at hb
  subst hb
  simp only [hostOps1, List.mem_cons, List.mem_nil_iff, or_false] at hop
  rcases hop with rfl | rfl | rfl
  all_goals
    simp only [StableHlo.unary_bufs, StableHlo.reshape_bufs, Finset.mem_insert, Finset.mem_singleton, not_or]
    exact ⟨StableHlo.devRef_ne_of_ne (by decide), StableHlo.devRef_ne_of_ne (by decide)⟩

set_option backward.isDefEq.respectTransparency.types false in
/-- Every execution ends with the arrays at what the proof data say, the other buffers at what the last host lines leave,
    and every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) (hQ' := fun _ h => h) cfgs (dats m) (0 : Fin 1) launch0 cell0 defs₀ Variants.none cell0_facts feats feats_sub m ρ main
    (hbody := fun c => (obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := main_around m Variants.none) (hA := dats_A m)
    (hin := fun _ => .rfl) (hout := fun _ => .rfl)

/-- A buffer that is no array of the pipeline and no later line's result ends at what the first host lines left. -/
theorem tail_keeps (b : Ref sig .tc) (h : ∀ op ∈ (hostOps1 : List (HloOp τ sig (Elt F))), Proc.devRef .tc b ∉ op.writes)
    (hw : ∀ w, Pipeline.arrRef spec0 w ≠ b) (c : Dev nD) :
    Pipeline.afterTail₀ cfgs (dats m) 0 (V0 m) [hostOps1] c b = V m c b := by
  unfold Pipeline.afterTail₀
  rw [StableHlo.after_of_forall_not_mem (b := Proc.devRef .tc b) _ _ (by simpa using h),
    Pipeline.withArrays_of_ne _ c (V0 m c) _ b hw]

theorem tail_arg (b : Ref sig .tc) (h8 : b ≠ main_v8) (h9 : b ≠ main_v9) (h10 : b ≠ main_v10) :
    ∀ op ∈ (hostOps1 : List (HloOp τ sig (Elt F))), Proc.devRef .tc b ∉ op.writes := by
  intro op hop
  simp only [hostOps1, List.mem_cons, List.mem_nil_iff, or_false] at hop
  rcases hop with rfl | rfl | rfl
  all_goals
    simp only [StableHlo.unary_writes, StableHlo.reshape_writes, Finset.mem_singleton]
    exact StableHlo.devRef_ne_of_ne (by assumption)

/-- The frame: every execution ends, the arguments keep their contents, and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (Pipeline.mem_restRefs_of main_arg0 (by decide) (by decide))).trans
          ((tail_keeps m main_arg0 (tail_arg _ (by decide) (by decide) (by decide)) (by decide) c).trans (V_main_arg0 m c)),
        ((h.1 c).2 main_arg1 (Pipeline.mem_restRefs_of main_arg1 (by decide) (by decide))).trans
          ((tail_keeps m main_arg1 (tail_arg _ (by decide) (by decide) (by decide)) (by decide) c).trans (V_main_arg1 m c)),
        ((h.1 c).1 2).trans (((dats m 0 c).arrAt_in 2 rfl _).trans ((dats_A m c 2).trans (V_main_arg2 m c)))⟩, h.2⟩) (run_main m ρ)

end Cert.KernelIdeal.Hand

end
-- ==== Proof.Pool.lean ====
/-
  Sums over a run of rows, taken in chunks of 256 rows: the last chunk is moved back so as to end with the table, and the
  rows it then shares with the chunk before it are masked.
-/
module

public import Mathlib.Algebra.BigOperators.Intervals
public import Mathlib.Algebra.BigOperators.Fin

@[expose] public section

namespace Cert.Hand

variable {M : Type} [AddCommMonoid M]

/-- The sum of `f` over the rows of `[L, H)` that are below `e` and in a table of 160000 rows. -/
def upTo (f : ℕ → M) (L H e : ℕ) : M := ∑ n ∈ Finset.range 160000, if L ≤ n ∧ n < H ∧ n < e then f n else 0

/-- Nothing is below the first row of the run. -/
theorem upTo_start (f : ℕ → M) {L H e : ℕ} (h : e ≤ L) : upTo f L H e = 0 :=
  Finset.sum_eq_zero fun n _ => if_neg (by omega)

/-- One chunk more: the 256 rows from `min e 159744`, those below `e` masked. -/
theorem upTo_step (f : ℕ → M) (L H e : ℕ) :
    upTo f L H (e + 256) = upTo f L H e
      + ∑ l : Fin 256, if (L ≤ min e 159744 + l.val ∧ min e 159744 + l.val < H) ∧ e ≤ min e 159744 + l.val then f (min e 159744 + l.val) else 0 := by
  have h1 : ∑ l : Fin 256, (if (L ≤ min e 159744 + l.val ∧ min e 159744 + l.val < H) ∧ e ≤ min e 159744 + l.val then f (min e 159744 + l.val) else 0)
      = ∑ n ∈ Finset.range 160000, if (L ≤ n ∧ n < H) ∧ e ≤ n ∧ n < e + 256 then f n else 0 := by
    rw [← Finset.sum_range (fun l => if (L ≤ min e 159744 + l ∧ min e 159744 + l < H) ∧ e ≤ min e 159744 + l then f (min e 159744 + l) else 0)]
    have h2 := Finset.sum_Ico_eq_sum_range (fun n => if (L ≤ n ∧ n < H) ∧ e ≤ n then f n else 0) (min e 159744) (min e 159744 + 256)
    rw [Nat.add_sub_cancel_left] at h2
    rw [← h2]
    have h3 : ∀ n ∈ Finset.Ico (min e 159744) (min e 159744 + 256), (if (L ≤ n ∧ n < H) ∧ e ≤ n then f n else 0)
        = if (L ≤ n ∧ n < H) ∧ e ≤ n ∧ n < e + 256 then f n else 0 := by
      intro n hn
      rw [Finset.mem_Ico] at hn
      exact if_congr (by omega) rfl rfl
    rw [Finset.sum_congr rfl h3]
    refine Finset.sum_subset ?_ ?_
    · intro n hn
      rw [Finset.mem_Ico] at hn
      rw [Finset.mem_range]
      omega
    · intro n hn hn'
      rw [Finset.mem_range] at hn
      rw [Finset.mem_Ico] at hn'
      exact if_neg (by omega)
  rw [h1, upTo, upTo, ← Finset.sum_add_distrib]
  refine Finset.sum_congr rfl fun n _ => ?_
  by_cases ha : L ≤ n ∧ n < H ∧ n < e
  · rw [if_pos ha, if_pos (by omega), if_neg (by omega), add_zero]
  · rw [if_neg ha, zero_add]
    exact if_congr (by omega) rfl rfl

/-- The sum of `f` over the rows of `[L, H)`. -/
def pool (f : ℕ → M) (L H : ℕ) : M := ∑ n ∈ Finset.range 160000, if L ≤ n ∧ n < H then f n else 0

/-- Once the chunks reach the end of the run, all of it is summed. -/
theorem upTo_end (f : ℕ → M) {L H e : ℕ} (h : H ≤ e) : upTo f L H e = pool f L H :=
  Finset.sum_congr rfl fun n _ => if_congr (by omega) rfl rfl

end Cert.Hand

end
-- ==== Proof.Sorted.lean ====
/-
  The rows of a sorted index that hold one value are the rows between the two insertion points of that value.
-/
module

public import proofs.«01_k».proof.Proof.Count
public import proofs.«01_k».proof.Proof.Pool

@[expose] public section

noncomputable section

namespace Cert.Hand

open Idealize.ShloMosaic

/-- The index words never step down, read signed. -/
def NoStepDown {N : ℕ} (X : IVec ⟨1, ![N]⟩ 32) : Prop := ∀ i j : Fin N, i ≤ j → (X (ix1 i)).toInt ≤ (X (ix1 j)).toInt

/-- It is enough to look at neighbours. -/
theorem noStepDown_of_succ {N : ℕ} (X : IVec ⟨1, ![N]⟩ 32)
    (h : ∀ (i : ℕ) (hi : i + 1 < N), (X (ix1 ⟨i, by omega⟩)).toInt ≤ (X (ix1 ⟨i + 1, hi⟩)).toInt) : NoStepDown X := by
  intro i j hij
  have hs : ∀ (k : ℕ) (hk : i.val + k < N), (X (ix1 i)).toInt ≤ (X (ix1 ⟨i.val + k, hk⟩)).toInt := by
    intro k
    induction k with
    | zero => intro hk; exact le_rfl
    | succ k ih => intro hk; exact (ih (by omega)).trans (h (i.val + k) hk)
  have hij' : i.val ≤ j.val := hij
  have e := hs (j.val - i.val) (by have := j.isLt; omega)
  have ej : (⟨i.val + (j.val - i.val), by have := j.isLt; omega⟩ : Fin N) = j := Fin.ext (by show i.val + (j.val - i.val) = j.val; omega)
  rwa [ej] at e

theorem cnt_le_iff {N : ℕ} (X : IVec ⟨1, ![N]⟩ 32) (h : NoStepDown X) (v : ℕ) (n : Fin N) : cnt X v ≤ n.val ↔ (v : ℤ) ≤ (X (ix1 n)).toInt := by
  constructor
  · intro hn
    by_contra hv
    have hsub : Finset.Iic n ⊆ Finset.univ.filter fun i : Fin N => (X (ix1 i)).toInt < (v : ℤ) := by
      intro i hi
      rw [Finset.mem_Iic] at hi
      rw [Finset.mem_filter]
      exact ⟨Finset.mem_univ _, (h i n hi).trans_lt (by omega)⟩
    have := Finset.card_le_card hsub
    rw [Fin.card_Iic] at this
    unfold cnt at hn
    omega
  · intro hv
    have hsub : (Finset.univ.filter fun i : Fin N => (X (ix1 i)).toInt < (v : ℤ)) ⊆ Finset.Iio n := by
      intro i hi
      rw [Finset.mem_filter] at hi
      rw [Finset.mem_Iio]
      by_contra hni
      have := h n i (not_lt.1 hni)
      omega
    have := Finset.card_le_card hsub
    rw [Fin.card_Iio] at this
    exact this

theorem run_iff {N : ℕ} (X : IVec ⟨1, ![N]⟩ 32) (h : NoStepDown X) (v : ℕ) (n : Fin N) :
    (cnt X v ≤ n.val ∧ n.val < cnt X (v + 1)) ↔ (X (ix1 n)).toInt = (v : ℤ) := by
  have h1 := cnt_le_iff X h v n
  have h2 := cnt_le_iff X h (v + 1) n
  push_cast at h2
  omega

/-- The sum over the rows between the insertion points of `v` is the sum over the rows whose index is `v`. -/
theorem pool_run {M : Type} [AddCommMonoid M] (X : IVec ⟨1, ![160000]⟩ 32) (h : NoStepDown X) (v : ℕ) (f : ℕ → M) :
    pool f (cnt X v) (cnt X (v + 1)) = ∑ n : Fin 160000, if (X (ix1 n)).toInt = (v : ℤ) then f n.val else 0 := by
  unfold pool
  rw [Finset.sum_range]
  exact Finset.sum_congr rfl fun n _ => if_congr (run_iff X h v n) rfl rfl

end Cert.Hand

end
-- ==== Proof.Reference.lean ====
/-
  The reference's rows at the ideal values: the sum of the features whose index is the row, over how many there are, times
  the weights.
-/
module

public import proofs.«01_k».proof.Proof.Gen.ReferenceIdeal
public import Idealize.ShloMosaic.Lib.Pointwise
public import Idealize.ShloMosaic.Lib.Routing.OpsPair

@[expose] public section

set_option maxRecDepth 16384

noncomputable section

namespace Cert.ReferenceIdeal.Hand

open Cert.ReferenceIdeal Cert.ReferenceIdeal.Gen
open Idealize.ShloMosaic

/-- The index as a column. -/
abbrev col (I : IVec S160000 32) : IVec S160000x1 32 := broadcastInDim S160000x1 ![0] bcast_S160000_S160000x1_0 I

/-- The features summed by index. -/
def sums (X : FVec Ideal S160000x256 .f32) (I : IVec S160000 32) : FVec Ideal S324000x256 .f32 :=
  Host.scatterAdd scatter_S324000x256_S160000x1_S160000x256_1_0_0_1 (broadcastInDim S324000x256 ![] bcast_S_S324000x256 (constant S_ .f32 0x00000000#32)) (col I) X

/-- How many features have each index. -/
def counts (I : IVec S160000 32) : FVec Ideal S324000 .f32 :=
  Host.scatterAdd scatter_S324000_S160000x1_S160000_n_0_0_1 (broadcastInDim S324000 ![] bcast_S_S324000 (constant S_ .f32 0x00000000#32)) (col I)
    (broadcastInDim S160000 ![] bcast_S_S160000 (constant S_ .f32 0x3F800000#32))

/-- The reference's rows, before they are arranged. -/
def rows (X : FVec Ideal S160000x256 .f32) (I : IVec S160000 32) (W : FVec Ideal S256x256 .f32) : FVec Ideal S324000x256 .f32 :=
  Host.dotGeneral dot_S324000x256_S256x256_S324000x256_1_0_0_1_n_n none
    (Host.divf (sums X I) (broadcastInDim S324000x256 ![0, 1] bcast_S324000x1_S324000x256_0_1 (broadcastInDim S324000x1 ![0] bcast_S324000_S324000x1_0
      (maximumf (broadcastInDim S324000 ![] bcast_S_S324000 (id (constant S_ .f32 0x3F800000#32))) (counts I))))) W

/-- Update `(n, c')` lands at `(v, c)` when the index of `n` is `v` and the columns agree. -/
theorem lands (J : IVec S160000x1 32) (n : Fin 160000) (c' : Fin 256) (v : Fin 324000) (c : Fin 256) :
    scatter_S324000x256_S160000x1_S160000x256_1_0_0_1.resultIdx? (ix2 n c') J = some (ix2 v c) ↔ (J (ix2 n 0)).toInt = (v.val : ℤ) ∧ c' = c := by
  have w0 : scatter_S324000x256_S160000x1_S160000x256_1_0_0_1.window (ix2 n c') 0 = 0 := rfl
  have w1 : scatter_S324000x256_S160000x1_S160000x256_1_0_0_1.window (ix2 n c') 1 = c'.val := rfl
  have s1 : scatter_S324000x256_S160000x1_S160000x256_1_0_0_1.start (ix2 n c') J 1 = 0 := rfl
  have s0 : scatter_S324000x256_S160000x1_S160000x256_1_0_0_1.start (ix2 n c') J 0 = (J (ix2 n 0)).toInt := by
    unfold ScatterDims.start
    rw [dif_pos (show (0 : Fin 2) ∈ scatter_S324000x256_S160000x1_S160000x256_1_0_0_1.scatterDimsToOperandDims from List.mem_singleton.2 rfl)]
    refine congrArg (fun q => (J q).toInt) ?_
    funext b
    match b with
    | ⟨0, _⟩ => rfl
    | ⟨1, _⟩ => exact Subsingleton.elim (α := Fin 1) _ _
  refine (Routing.resultIdx?_eq_some _ _ _ _).trans ?_
  constructor
  · intro h
    have h0 := h 0
    have h1 := h 1
    rw [s0, w0] at h0
    rw [s1, w1] at h1
    refine ⟨?_, Fin.ext ?_⟩
    · have : (((ix2 v c : S324000x256.Idx) 0).val : ℤ) = v.val := rfl
      omega
    · have : (((ix2 v c : S324000x256.Idx) 1).val : ℤ) = c.val := rfl
      omega
  · rintro ⟨h0, rfl⟩ a
    match a with
    | ⟨0, _⟩ =>
      show scatter_S324000x256_S160000x1_S160000x256_1_0_0_1.start (ix2 n c') J 0 + ((scatter_S324000x256_S160000x1_S160000x256_1_0_0_1.window (ix2 n c') 0 : ℕ) : ℤ) = (v.val : ℤ)
      rw [s0, w0, h0]; simp
    | ⟨1, _⟩ =>
      show scatter_S324000x256_S160000x1_S160000x256_1_0_0_1.start (ix2 n c') J 1 + ((scatter_S324000x256_S160000x1_S160000x256_1_0_0_1.window (ix2 n c') 1 : ℕ) : ℤ) = (c'.val : ℤ)
      rw [s1, w1]; simp

/-- Update `n` of the counts lands at `v` when the index of `n` is `v`. -/
theorem lands1 (J : IVec S160000x1 32) (n : Fin 160000) (v : Fin 324000) :
    scatter_S324000_S160000x1_S160000_n_0_0_1.resultIdx? (ix1 n) J = some (ix1 v) ↔ (J (ix2 n 0)).toInt = (v.val : ℤ) := by
  have w0 : scatter_S324000_S160000x1_S160000_n_0_0_1.window (ix1 n) 0 = 0 := rfl
  have s0 : scatter_S324000_S160000x1_S160000_n_0_0_1.start (ix1 n) J 0 = (J (ix2 n 0)).toInt := by
    unfold ScatterDims.start
    rw [dif_pos (show (0 : Fin 1) ∈ scatter_S324000_S160000x1_S160000_n_0_0_1.scatterDimsToOperandDims from List.mem_singleton.2 rfl)]
    refine congrArg (fun q => (J q).toInt) ?_
    funext b
    match b with
    | ⟨0, _⟩ => rfl
    | ⟨1, _⟩ => exact Subsingleton.elim (α := Fin 1) _ _
  refine (Routing.resultIdx?_eq_some _ _ _ _).trans ?_
  constructor
  · intro h
    have h0 := h 0
    rw [s0, w0] at h0
    have : (((ix1 v : S324000.Idx) 0).val : ℤ) = v.val := rfl
    omega
  · intro h0 a
    match a with
    | ⟨0, _⟩ =>
      show scatter_S324000_S160000x1_S160000_n_0_0_1.start (ix1 n) J 0 + ((scatter_S324000_S160000x1_S160000_n_0_0_1.window (ix1 n) 0 : ℕ) : ℤ) = (v.val : ℤ)
      rw [s0, w0, h0]; simp

theorem col_apply (I : IVec S160000 32) (n : Fin 160000) : col I (ix2 n 0) = I (ix1 n) := by
  pointwise

theorem sums_apply (X : FVec Ideal S160000x256 .f32) (I : IVec S160000 32) (v : Fin 324000) (c : Fin 256) :
    sums X I (ix2 v c) = ∑ n : Fin 160000, if (I (ix1 n)).toInt = (v.val : ℤ) then (X (ix2 n c) : EReal) else 0 := by
  unfold sums Host.scatterAdd
  rw [Ideal.hostScatterAdd_def]
  unfold Ideal.hostScatterAdd
  have hz : (broadcastInDim S324000x256 ![] bcast_S_S324000x256 (constant (F := Ideal) S_ .f32 0x00000000#32) (ix2 v c) : EReal) = 0 := by
    pointwise
  rw [hz, zero_add, Finset.sum_filter, sum_idx2]
  refine Finset.sum_congr rfl fun n _ => ?_
  have e : ∀ c' : Fin 256, (if scatter_S324000x256_S160000x1_S160000x256_1_0_0_1.resultIdx? (ix2 n c') (col I) = some (ix2 v c) then (X (ix2 n c') : EReal) else 0)
      = if c' = c then (if (I (ix1 n)).toInt = (v.val : ℤ) then (X (ix2 n c') : EReal) else 0) else 0 := by
    intro c'
    rw [← ite_and]
    refine if_congr ?_ rfl rfl
    rw [lands, col_apply]
    exact and_comm
  refine (Finset.sum_congr rfl fun c' _ => e c').trans ?_
  rw [Finset.sum_ite_eq' Finset.univ c, if_pos (Finset.mem_univ c)]

theorem counts_apply (I : IVec S160000 32) (v : Fin 324000) :
    counts I (ix1 v) = ∑ n : Fin 160000, if (I (ix1 n)).toInt = (v.val : ℤ) then (1 : EReal) else 0 := by
  unfold counts Host.scatterAdd
  rw [Ideal.hostScatterAdd_def]
  unfold Ideal.hostScatterAdd
  have hz : (broadcastInDim S324000 ![] bcast_S_S324000 (constant (F := Ideal) S_ .f32 0x00000000#32) (ix1 v) : EReal) = 0 := by
    pointwise
  rw [hz, zero_add, Finset.sum_filter, sum_idx1]
  refine Finset.sum_congr rfl fun n _ => ?_
  have ho : (broadcastInDim S160000 ![] bcast_S_S160000 (constant (F := Ideal) S_ .f32 0x3F800000#32) (ix1 n) : EReal) = 1 := by
    pointwise
  rw [ho]
  refine if_congr ?_ rfl rfl
  rw [lands1, col_apply]

theorem rows_apply (X : FVec Ideal S160000x256 .f32) (I : IVec S160000 32) (W : FVec Ideal S256x256 .f32) (v : Fin 324000) (d : Fin 256) :
    rows X I W (ix2 v d) = ∑ c : Fin 256, Ideal.div (∑ n : Fin 160000, if (I (ix1 n)).toInt = (v.val : ℤ) then (X (ix2 n c) : EReal) else 0)
      (max (∑ n : Fin 160000, if (I (ix1 n)).toInt = (v.val : ℤ) then (1 : EReal) else 0) 1) * W (ix2 c d) := by
  unfold rows
  have es := fun c => sums_apply X I v c
  have ec := counts_apply I v
  revert es ec
  generalize sums X I = S
  generalize counts I = C
  intro es ec
  pointwise
  refine Finset.sum_congr rfl fun c _ => ?_
  have h1 : (id (constant (F := Ideal) S_ .f32 0x3F800000#32) ix0 : EReal) = 1 := Ideal.ofBits_one_f32
  rw [es c, ec, h1, max_comm]

end Cert.ReferenceIdeal.Hand

end
-- ==== Proof.KernelIdeal.Block.lean ====
/-
  The kernel's chunk loop at the ideal values: the running sums and counts are the sums over the rows of each segment that
  the chunks so far hold.
-/
module

public import proofs.«01_k».proof.Proof.KernelIdeal.Words
public import proofs.«01_k».proof.Proof.KernelIdeal.Body
public import proofs.«01_k».proof.Proof.Pool
public import Idealize.ShloMosaic.Lib.Pointwise
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe
open Cert.Hand (upTo upTo_start upTo_step upTo_end pool)

theorem toInt_of_isInt {x : BitVec 32} {e : ℤ} (h : Affine.IsInt x e) : x.toInt = e := by
  unfold Affine.IsInt at h; exact h

/-- Three conditions joined and turned into a float: one where they all hold, zero elsewhere. -/
theorem mask_eq (p q s : Prop) [Decidable p] [Decidable q] [Decidable s] :
    (FloatOps.sitofp (F := Ideal) .f32 (BitVec.setWidth 32 (IntOp.andi (IntOp.andi (BitVec.ofBool (decide p)) (BitVec.ofBool (decide q))) (BitVec.ofBool (decide s)))) : EReal)
      = if (p ∧ q) ∧ s then 1 else 0 := by
  have h1 : (FloatOps.sitofp (F := Ideal) .f32 (1#32) : EReal) = 1 := by
    show ((((1#32 : BitVec 32).toInt : ℤ) : ℝ) : EReal) = 1
    have : (1#32 : BitVec 32).toInt = 1 := by decide
    rw [this]; simp
  have h0 : (FloatOps.sitofp (F := Ideal) .f32 (0#32) : EReal) = 0 := by
    show ((((0#32 : BitVec 32).toInt : ℤ) : ℝ) : EReal) = 0
    simp
  by_cases hp : p <;> by_cases hq : q <;> by_cases hs : s <;> simp only [hp, hq, hs, decide_true, decide_false, and_true, and_false, and_self, if_true, if_false]
  · exact h1
  all_goals exact h0

section
variable {v1 v4 : BitVec 32} {a b : ℕ}

/-- An entry of the mask of chunk `k`. -/
theorem pay5_apply (h1 : Affine.IsInt v1 a) (h4 : Affine.IsInt v4 b) (hab : a ≤ b) (hb : b ≤ 160000) (X2 X3 : IVec S1x256x1 32)
    (k : Fin (k0_t1_loop v1 v4).trips) (r l : Fin 256) {L H : ℕ} (hL : (X2 (ix3 0 r 0)).toInt = L) (hH : (X3 (ix3 0 r 0)).toInt = H) :
    k0_pay5 (F := Ideal) v1 v4 (baseW v1) X2 X3 k (ix2 r l)
      = if (L ≤ min (8 * (a / 8) + 256 * k.val) 159744 + l.val ∧ min (8 * (a / 8) + 256 * k.val) 159744 + l.val < H)
          ∧ 8 * (a / 8) + 256 * k.val ≤ min (8 * (a / 8) + 256 * k.val) 159744 + l.val then (1 : EReal) else 0 := by
  have hk : k.val ≤ 700 := by
    have := k.isLt.trans_eq (t1_trips h1 h4 hab hb)
    unfold nch at this
    omega
  have hrow := toInt_of_isInt (row_isInt h1 (by omega) k.val hk)
  have hpos : (IntOp.addi (Scalar.minsi (Scalar.addi (baseW v1) (Scalar.muli (Scf.iv 0#32 1#32 k.val) 256#32)) 159744#32) (BitVec.ofNat 32 l.val)).toInt
      = ((min (8 * (a / 8) + 256 * k.val) 159744 + l.val : ℕ) : ℤ) := by
    have hl : Affine.IsInt (BitVec.ofNat 32 l.val) (l.val : ℕ) := Affine.ofNat _ ⟨rfl, by have := l.isLt; omega⟩
    exact toInt_of_isInt (Affine.addi (win_isInt h1 (by omega) k.val hk) hl ⟨by push_cast; omega, by have := l.isLt; omega, by have := l.isLt; omega⟩)
  pointwise [k0_pay5, k0_pay3, k0_pay4]
  rw [WordCmp.cmpi_sge_eq, WordCmp.cmpi_slt_eq, WordCmp.cmpi_sge_eq, mask_eq, hpos, hrow, hL, hH]
  exact if_congr (by omega) rfl rfl

/-- Row `n`, column `c` of the features; zero past the table. -/
def feat (X : FVec Ideal S160000x256 .f32) (c : Fin 256) (n : ℕ) : EReal := if h : n < 160000 then X (ix2 ⟨n, h⟩ c) else 0

/-- An entry of chunk `k` of the features. -/
theorem chunk_apply (h1 : Affine.IsInt v1 a) (h4 : Affine.IsInt v4 b) (hab : a ≤ b) (hb : b ≤ 160000) (hw : k0_chk1 v1 v4)
    (X : FVec Ideal S160000x256 .f32) (k : Fin (k0_t1_loop v1 v4).trips) (l c : Fin 256) :
    chunk (F := Ideal) (Memref.whole main_arg0) v1 v4 hw X k (ix2 l c) = feat X c (min (8 * (a / 8) + 256 * k.val) 159744 + l.val) := by
  have hoff := off3_eq h1 h4 hab hb k
  have h0 : k0_off3 v1 v4 k 0 = min (8 * (a / 8) + 256 * k.val) 159744 := by rw [hoff]; rfl
  have h1' : k0_off3 v1 v4 k 1 = 0 := by rw [hoff]; rfl
  unfold feat
  rw [dif_pos (by have := l.isLt; omega)]
  show X _ = X _
  congr 1
  funext d
  refine Fin.ext ?_
  fin_cases d
  · show k0_off3 v1 v4 k 0 + 1 * l.val = min (8 * (a / 8) + 256 * k.val) 159744 + l.val
    rw [h0, one_mul]
  · show k0_off3 v1 v4 k 1 + 1 * c.val = c.val
    rw [h1', one_mul, zero_add]

theorem acc_apply (h1 : Affine.IsInt v1 a) (h4 : Affine.IsInt v4 b) (hab : a ≤ b) (hb : b ≤ 160000) (hw : k0_chk1 v1 v4)
    (X2 X3 : IVec S1x256x1 32) (X : FVec Ideal S160000x256 .f32) (r : Fin 256) {L H : ℕ} (hL : (X2 (ix3 0 r 0)).toInt = L)
    (hH : (X3 (ix3 0 r 0)).toInt = H) (haL : a ≤ L) (k : ℕ) (hk : k ≤ (k0_t1_loop v1 v4).trips) :
    (∀ c, (acc (F := Ideal) (Memref.whole main_arg0) v1 v4 hw (baseW v1) X2 X3 X k).1 (ix2 r c) = upTo (feat X c) L H (8 * (a / 8) + 256 * k))
      ∧ (acc (F := Ideal) (Memref.whole main_arg0) v1 v4 hw (baseW v1) X2 X3 X k).2 (ix2 r 0) = upTo (fun _ => (1 : EReal)) L H (8 * (a / 8) + 256 * k) := by
  induction k with
  | zero =>
    rw [acc]
    refine ⟨fun c => ?_, ?_⟩
    · rw [upTo_start _ (by omega)]
      pointwise [k0_pay1]
    · rw [upTo_start _ (by omega)]
      pointwise [k0_pay2]
  | succ k ih =>
    obtain ⟨i1, i2⟩ := ih (by omega)
    have e := acc_succ (F := Ideal) (Memref.whole main_arg0) v1 v4 hw (baseW v1) X2 X3 X ⟨k, hk⟩
    rw [e]
    have hs : 8 * (a / 8) + 256 * (k + 1) = 8 * (a / 8) + 256 * k + 256 := by omega
    refine ⟨fun c => ?_, ?_⟩
    · rw [hs, upTo_step, ← i1 c]
      dsimp only
      generalize (acc (F := Ideal) (Memref.whole main_arg0) v1 v4 hw (baseW v1) X2 X3 X k).1 = S
      pointwise [k0_pay6]
      refine congrArg _ (Finset.sum_congr rfl fun l _ => ?_)
      rw [pay5_apply h1 h4 hab hb X2 X3 ⟨k, hk⟩ r l hL hH, chunk_apply h1 h4 hab hb hw X ⟨k, hk⟩ l c, ite_mul, one_mul, zero_mul]
    · rw [hs, upTo_step, ← i2]
      dsimp only
      generalize (acc (F := Ideal) (Memref.whole main_arg0) v1 v4 hw (baseW v1) X2 X3 X k).2 = C
      pointwise [k0_pay7]
      refine congrArg _ (Finset.sum_congr rfl fun l _ => ?_)
      exact pay5_apply h1 h4 hab hb X2 X3 ⟨k, hk⟩ r l hL hH

end

/-- The mean of a segment times the weights. -/
def mean (X : FVec Ideal S160000x256 .f32) (W : FVec Ideal S256x256 .f32) (L H : ℕ) (d : Fin 256) : EReal :=
  ∑ c : Fin 256, Ideal.div (pool (feat X c) L H) (max (pool (fun _ => (1 : EReal)) L H) 1) * W (ix2 c d)

/-- An entry of the block that the body stores: the mean of its row's segment times the weights. -/
theorem res_apply {a b : ℕ} (i : grid0.Coords) (X : FVec Ideal S160000x256 .f32) (X2 X3 : IVec S1x256x1 32) (X4 : FVec Ideal S256x256 .f32)
    (X5 : IVec S1267 32) (hchk : k0_chk1 (word1 (F := Ideal) i X5) (word2 (F := Ideal) i X5))
    (h1 : Affine.IsInt (word1 (F := Ideal) i X5) a) (h4 : Affine.IsInt (word2 (F := Ideal) i X5) b) (hab : a ≤ b) (hb : b ≤ 160000)
    (r d : Fin 256) {L H : ℕ} (hL : (X2 (ix3 0 r 0)).toInt = L) (hH : (X3 (ix3 0 r 0)).toInt = H) (haL : a ≤ L) (hHb : H ≤ b) :
    res (F := Ideal) i (Memref.whole main_arg0) X X2 X3 X4 X5 hchk (ix2 r d) = mean X X4 L H d := by
  obtain ⟨e1, e2⟩ := acc_apply h1 h4 hab hb hchk X2 X3 X r hL hH haL _ le_rfl
  have hend : H ≤ 8 * (a / 8) + 256 * (k0_t1_loop (word1 (F := Ideal) i X5) (word2 (F := Ideal) i X5)).trips := by
    rw [t1_trips h1 h4 hab hb]
    unfold nch
    omega
  rw [upTo_end _ hend] at e2
  have e1' := fun c => (e1 c).trans (upTo_end _ hend)
  unfold res mean
  revert e1' e2
  generalize (acc (F := Ideal) (Memref.whole main_arg0) _ _ hchk _ X2 X3 X _) = A
  intro e2 e1'
  pointwise [k0_pay11]
  refine Finset.sum_congr rfl fun c _ => ?_
  rw [e1' c, e2]

end Cert.KernelIdeal.Hand

end
-- ==== Proof.KernelIdeal.Value.lean ====
/-
  The result of the kernel at the ideal values: row by row, the mean of the segment times the weights.
-/
module

public import proofs.«01_k».proof.Proof.KernelIdeal.Run
public import proofs.«01_k».proof.Proof.KernelIdeal.Block

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Cert.Hand (cnt cnt_le cnt_mono cnt_isInt)

section
variable {F : FTy → Type} [FloatOps F]

/-- The first window's block of a table, read at an entry. -/
theorem read0 (t : Fin grid0.N) (Z : IVec S1266x256x1 32) (r : Fin 256) :
    ((win0_0.blk t).view.read (Elt F) Z : Vec F S1x256x1 .i32) (ix3 0 r 0) = Z (ix3 ⟨t.val, lt_of_lt_of_eq t.isLt N_eq⟩ r 0) := by
  show Z ((win0_0.blk t).view.emb (ix3 0 r 0)) = _
  congr 1
  blk_ext! [win0_0_index t]

/-- The second window's block of a table, read at an entry. -/
theorem read1 (t : Fin grid0.N) (Z : IVec S1266x256x1 32) (r : Fin 256) :
    ((win0_1.blk t).view.read (Elt F) Z : Vec F S1x256x1 .i32) (ix3 0 r 0) = Z (ix3 ⟨t.val, lt_of_lt_of_eq t.isLt N_eq⟩ r 0) := by
  show Z ((win0_1.blk t).view.emb (ix3 0 r 0)) = _
  congr 1
  blk_ext! [win0_1_index t]

/-- The third window's block of the weights is the weights. -/
theorem read2 (t : Fin grid0.N) (Z : Vec F S256x256 .f32) : ((win0_2.blk t).view.read (Elt F) Z : Vec F S256x256 .f32) = Z := by
  funext y
  show Z ((win0_2.blk t).view.emb y) = Z y
  congr 1
  blk_ext! [win0_2_index t]

end

variable (m : (ℓ : Loc nD τ sig) → Buf (Elt Ideal) ℓ) (ρ : Dev nD → PrngReg)

/-- The features and the weights as launched. -/
abbrev feats0 (c : Dev nD) : FVec Ideal S160000x256 .f32 := m ((c : Thread nD τ).loc main_arg0)
abbrev wts0 (c : Dev nD) : FVec Ideal S256x256 .f32 := m ((c : Thread nD τ).loc main_arg2)

theorem lo_word (c : Dev nD) (t : Fin cfg0.N) (r : Fin 256) :
    ((iblk m c 0 t : IVec S1x256x1 32) (ix3 0 r 0)).toInt = (cnt (idx m c) (256 * t.val + r.val) : ℕ) := by
  have e : (iblk m c 0 t : IVec S1x256x1 32) (ix3 0 r 0) = (V m c main_v3 : IVec S1266x256x1 32) (ix3 ⟨t.val, lt_of_lt_of_eq t.isLt N_eq⟩ r 0) := by
    unfold iblk
    exact read0 (F := Ideal) t _ r
  rw [e, V_v3]
  exact toInt_of_isInt (cnt_isInt (by norm_num) _ _)

theorem hi_word (c : Dev nD) (t : Fin cfg0.N) (r : Fin 256) :
    ((iblk m c 1 t : IVec S1x256x1 32) (ix3 0 r 0)).toInt = (cnt (idx m c) (256 * t.val + r.val + 1) : ℕ) := by
  have e : (iblk m c 1 t : IVec S1x256x1 32) (ix3 0 r 0) = (V m c main_v5 : IVec S1266x256x1 32) (ix3 ⟨t.val, lt_of_lt_of_eq t.isLt N_eq⟩ r 0) := by
    unfold iblk
    exact read1 (F := Ideal) t _ r
  rw [e, V_v5]
  exact toInt_of_isInt (cnt_isInt (by norm_num) _ _)

theorem wts_eq (c : Dev nD) (t : Fin cfg0.N) : (iblk m c 2 t : FVec Ideal S256x256 .f32) = wts0 m c := by
  have e : (iblk m c 2 t : FVec Ideal S256x256 .f32) = V m c main_arg2 := by
    unfold iblk
    exact read2 (F := Ideal) t _
  rw [e]
  exact V_main_arg2 m c

/-- An entry of the block of results at point `t`. -/
theorem blockOut_apply (c : Dev nD) (t : Fin cfg0.N) (r d : Fin 256) :
    blockOut (F := Ideal) m c t (ix2 r d)
      = mean (feats0 m c) (wts0 m c) (cnt (idx m c) (256 * t.val + r.val)) (cnt (idx m c) (256 * t.val + r.val + 1)) d := by
  have ht : (grid0.coords t 0).val = t.val := coords_val t
  have e := res_apply (grid0.coords t) (V m c main_arg0) (iblk m c 0 t) (iblk m c 1 t) (iblk m c 2 t) (iblk m c 3 t)
    (chk m c (grid0.coords t) t) (word1_isInt m c (grid0.coords t) t) (word2_isInt m c (grid0.coords t) t) (lo_le_hi m c (grid0.coords t))
    (hi_le m c (grid0.coords t)) r d (lo_word m c t r) (hi_word m c t r) (cnt_mono _ (by omega)) (cnt_mono _ (by have := r.isLt; omega))
  have e0 : (V m c main_arg0 : FVec Ideal S160000x256 .f32) = feats0 m c := V_main_arg0 m c
  unfold blockOut
  refine e.trans ?_
  rw [wts_eq, e0]

/-- The kernel's result array. -/
def out (c : Dev nD) : FVec Ideal S324096x256 .f32 := fun i =>
  mean (feats0 m c) (wts0 m c) (cnt (idx m c) (i 0).val) (cnt (idx m c) ((i 0).val + 1)) (i 1)

/-- The last window's block of a table, read at an entry. -/
theorem read4 (t : Fin grid0.N) (Z : FVec Ideal S324096x256 .f32) (y : S256x256.Idx) :
    Z ((win0_4.blk t).view.emb y) = Z (ix2 ⟨256 * t.val + (y 0).val, by have := lt_of_lt_of_eq t.isLt N_eq; have := (y 0).isLt; show _ < 324096; have : (y 0).val < 256 := (y 0).isLt; omega⟩ (y 1)) := by
  congr 1
  blk_ext! [win0_4_index t]

theorem point_out (c : Dev nD) (t : Fin cfg0.N) (y : S256x256.Idx) : blockOut (F := Ideal) m c t y = out m c ((win0_4.blk t).view.emb y) := by
  rw [read4 t (out m c) y]
  have hy : y = ix2 (y 0) (y 1) := by funext a; fin_cases a <;> rfl
  exact (congrArg (blockOut m c t) hy).trans (blockOut_apply m c t (y 0) (y 1))

/-- Every entry of the result array lies in the block of its point. -/
theorem cover (c : Dev nD) (i : ((cfg0.win 4).arr.view.loc (c.tc : Thread nD τ)).2.ty.Idx) :
    ∃ t : Fin cfg0.N, (cfg0.win 4).flush t = true ∧ i ∈ ((cfg0.win 4).blk t).view.set := by
  have h0 : (i 0).val < 324096 := (i 0).isLt
  have h1 : (i 1).val < 256 := (i 1).isLt
  obtain ⟨t, ht⟩ : ∃ t : Fin cfg0.N, t.val = (i 0).val / 256 := ⟨⟨(i 0).val / 256, lt_of_lt_of_eq (by omega) N_eq.symm⟩, rfl⟩
  refine ⟨t, flush0_4 t, ?_⟩
  mem_blk [win0_4_index]
  omega

/-- The block is not cut, so the entry of it that is written back is the entry itself. -/
theorem uncut (t : Fin cfg0.N) (Z : Vec Ideal S256x256 .f32) (y : ((cfg0.win 4).xblock (cfg0.grid.coords t)).Idx) :
    _root_.cast (congrArg (Elt Ideal) ((cfg0.win 4).blk t).view.elt_eq.symm) (Z ((cfg0.win 4).xinj (cfg0.grid.coords t) y)) = Z y := by
  blk_simp

theorem final (c : Dev nD) : (dats m 0 c).arrAt 4 cfg0.N = out m c := by
  refine (dats m 0 c).arrAt_eq_of_emb 4 _ (fun t hf y => ?_) (cover c)
  rw [after_4]
  exact (uncut t (blockOut m c t) y).trans (point_out m c t y)

/-- The kernel's result: the rows of the result array that stand for cells, arranged. -/
def result (c : Dev nD) : FVec Ideal S2x256x5x180x180 .f32 :=
  transpose S2x256x5x180x180 [0, 4, 3, 2, 1] (shapeCast S2x180x180x5x256 (extractStridedSlice S324000x256 ![0, 0] (out m c) slices_S324096x256_S324000x256_0_0)
    shapeCasts_S324000x256_S2x180x180x5x256) transposes_S2x180x180x5x256_S2x256x5x180x180_0_4_3_2_1

/-- The host lines after the region, from any contents of the buffers. -/
theorem tail_lines (W : Valuation τ sig (Elt Ideal)) :
    (StableHlo.after hostOps1 W (Proc.devRef .tc main_v10) : FVec Ideal S2x256x5x180x180 .f32)
      = transpose S2x256x5x180x180 [0, 4, 3, 2, 1] (shapeCast S2x180x180x5x256
          (extractStridedSlice S324000x256 ![0, 0] (W (Proc.devRef .tc main_v7) : FVec Ideal S324096x256 .f32) slices_S324096x256_S324000x256_0_0)
          shapeCasts_S324000x256_S2x180x180x5x256) transposes_S2x180x180x5x256_S2x256x5x180x180_0_4_3_2_1 := by
  after_results <;> rfl

theorem arrays_inj : Function.Injective (Pipeline.arrRef spec0) := by decide

theorem tail_out (c : Dev nD) : Pipeline.afterTail₀ cfgs (dats m) 0 (V0 m) [hostOps1] c main_v10 = result m c := by
  have hA := Pipeline.withArrays_arr spec0 arrays_inj c (V0 m c) (fun w => (dats m 0 c).arrAt w cfg0.N) 4
  have hA' := hA.trans (final m c)
  unfold Pipeline.afterTail₀ result
  refine (tail_lines _).trans ?_
  rw [← hA']

/-- Every execution of the kernel ends with the result and the arguments as launched. -/
theorem run_value : θ_run defs (onTc (τ := τ) (main (F := Ideal))) ⟨m, fun _ => 0, ρ⟩ (fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h.1 c).2 main_v10 (Pipeline.mem_restRefs_of main_v10 (by decide) (by decide))).trans (tail_out m c),
        ((h.1 c).2 main_arg0 (Pipeline.mem_restRefs_of main_arg0 (by decide) (by decide))).trans
          ((tail_keeps m main_arg0 (tail_arg _ (by decide) (by decide) (by decide)) (by decide) c).trans (V_main_arg0 m c)),
        ((h.1 c).2 main_arg1 (Pipeline.mem_restRefs_of main_arg1 (by decide) (by decide))).trans
          ((tail_keeps m main_arg1 (tail_arg _ (by decide) (by decide) (by decide)) (by decide) c).trans (V_main_arg1 m c)),
        ((h.1 c).1 2).trans (((dats m 0 c).arrAt_in 2 rfl _).trans ((dats_A m c 2).trans (V_main_arg2 m c)))⟩) (run_main m ρ)

end Cert.KernelIdeal.Hand

end
-- ==== Proof.Agree.lean ====
/-
  On a sorted index the kernel's rows are the reference's, so that the two results are one.
-/
module

public import proofs.«01_k».proof.Defs
public import proofs.«01_k».proof.Proof.Sorted
public import proofs.«01_k».proof.Proof.Reference
public import proofs.«01_k».proof.Proof.Gen.ReferenceIdeal.Run
public import proofs.«01_k».proof.Proof.KernelIdeal.Value

@[expose] public section

set_option maxRecDepth 16384

noncomputable section

namespace Cert.Agree

open Idealize.ShloMosaic Idealize.ShloMosaic.TcCoe Idealize.SL.Sem
open Cert.Hand (cnt pool pool_run NoStepDown noStepDown_of_succ)
open Cert.KernelIdeal.Hand (idx feats0 wts0 out result mean feat)

/-- What the precondition is stated over holds of its shapes. -/
theorem pre_facts : Cert.Pre_sorted_index.Facts := ⟨by decide, by decide⟩

instance : Cert.Pre_sorted_index.Facts := pre_facts

variable (m : (ℓ : Loc Cert.KernelIdeal.nD Cert.KernelIdeal.τ Cert.KernelIdeal.sig) → Buf (Elt Ideal) ℓ)

/-- The precondition says that no index word is above the one after it. -/
theorem noStepDown (h : Cert.Pre_KernelIdeal_sorted_index m) (c : Dev Cert.KernelIdeal.nD) : NoStepDown (idx m c) := by
  refine noStepDown_of_succ _ fun i hi => ?_
  have e := congrFun (h c) (ix1 ⟨i, by omega⟩ : Cert.Pre_sorted_index.S159999.Idx)
  revert e
  show (Cert.Pre_sorted_index.fn (F := Ideal) (feats0 m c) (idx m c) (wts0 m c)) (ix1 ⟨i, by omega⟩) = 1#1 → _
  generalize idx m c = I
  intro e
  unfold Cert.Pre_sorted_index.fn at e
  pointwise at e
  have e2 := IntOp.cmpi_sle.1 e
  have ei : (⟨1 + i, by omega⟩ : Fin 160000) = ⟨i + 1, hi⟩ := Fin.ext (Nat.add_comm 1 i)
  rw [← ei]
  exact e2

/-- A row of the kernel that stands for a cell is the reference's row. -/
theorem out_eq (h : Cert.Pre_KernelIdeal_sorted_index m) (c : Dev Cert.KernelIdeal.nD) (v : Fin 324000) (d : Fin 256) :
    out m c (ix2 ⟨v.val, by have := v.isLt; omega⟩ d) = Cert.ReferenceIdeal.Hand.rows (feats0 m c) (idx m c) (wts0 m c) (ix2 v d) := by
  have hs := noStepDown m h c
  rw [Cert.ReferenceIdeal.Hand.rows_apply]
  show mean (feats0 m c) (wts0 m c) (cnt (idx m c) v.val) (cnt (idx m c) (v.val + 1)) d = _
  unfold mean
  refine Finset.sum_congr rfl fun k _ => ?_
  rw [pool_run (idx m c) hs v.val, pool_run (idx m c) hs v.val]
  have ef : ∀ n : Fin 160000, feat (feats0 m c) k n.val = feats0 m c (ix2 n k) := fun n => by
    unfold feat
    rw [dif_pos n.isLt]
  simp only [ef]

/-- The rows that stand for cells, of the kernel's result array, are the reference's rows. -/
theorem rows_eq (h : Cert.Pre_KernelIdeal_sorted_index m) (c : Dev Cert.KernelIdeal.nD) :
    extractStridedSlice Cert.KernelIdeal.S324000x256 ![0, 0] (out m c) Cert.KernelIdeal.Gen.facts.slices_S324096x256_S324000x256_0_0
      = Cert.ReferenceIdeal.Hand.rows (feats0 m c) (idx m c) (wts0 m c) := by
  have e := out_eq m h c
  revert e
  generalize Cert.ReferenceIdeal.Hand.rows (feats0 m c) (idx m c) (wts0 m c) = R
  generalize out m c = O
  intro e
  funext j
  have hj : j = ix2 (j 0) (j 1) := by funext a; fin_cases a <;> rfl
  rw [hj]
  generalize j 0 = v
  generalize j 1 = d
  refine Eq.trans ?_ (e v d)
  pointwise

/-- The result of the reference is the kernel's. -/
theorem result_eq (h : Cert.Pre_KernelIdeal_sorted_index m) (c : Dev Cert.KernelIdeal.nD) :
    transpose Cert.ReferenceIdeal.S2x256x5x180x180 [0, 4, 3, 2, 1] (shapeCast Cert.ReferenceIdeal.S2x180x180x5x256
        (Cert.ReferenceIdeal.Hand.rows (feats0 m c) (idx m c) (wts0 m c)) Cert.ReferenceIdeal.Gen.facts.shapeCasts_S324000x256_S2x180x180x5x256)
        Cert.ReferenceIdeal.Gen.facts.transposes_S2x180x180x5x256_S2x256x5x180x180_0_4_3_2_1
      = result m c := by
  rw [← rows_eq m h c]
  rfl

end Cert.Agree

end
-- ==== Proof.lean ====
/-
  The claims about the kernel and its reference, put together: the frames from the runs of the three programs, and the
  equality of the results from the value of each, on a sorted index.
-/
module

public import proofs.«01_k».proof.Defs
public import proofs.«01_k».proof.Proof.Gen.ReferenceIdeal.Run
public import proofs.«01_k».proof.Proof.Kernel.Run
public import proofs.«01_k».proof.Proof.KernelIdeal.Run
public import proofs.«01_k».proof.Proof.Agree
public import Idealize.ShloMosaic.Adequacy
public import Idealize.ShloMosaic.Init

@[expose] public section

noncomputable section

namespace Cert.Proof

open Idealize.ShloMosaic Idealize.SL.Sem

/-- The kernel's frame. -/
theorem frame_kernel : Cert.quiescent_Kernel := fun m g _ => Cert.Kernel.Hand.frame m g

/-- The frame of the kernel over the extended reals. -/
theorem frame_kernelIdeal : Cert.quiescent_KernelIdeal := fun m g _ => Cert.KernelIdeal.Hand.frame m g

/-- The frame of the reference over the extended reals: it declares no semaphore. -/
theorem frame_referenceIdeal : Cert.quiescent_ReferenceIdeal := fun m g _ =>
  (θ_run _ _ _).mono (fun _ h => ⟨fun c => (h c).2, sem_eq_zero_of_no_sems (by decide) _⟩) (Cert.ReferenceIdeal.Value.run m g)

/-- On a sorted index both programs end at the kernel's result. -/
theorem agree : Cert.algebraic_KernelIdeal_ReferenceIdeal_pre_sorted_index (hPre_sorted_index := Cert.Agree.pre_facts) := by
  intro m g m' g' hm hargs
  refine ⟨fun c => Cert.KernelIdeal.Hand.result m c, Cert.KernelIdeal.Hand.run_value m g, ?_⟩
  refine (θ_run _ _ _).mono (fun _ h c => ⟨(h c).1.trans ?_, (h c).2⟩) (Cert.ReferenceIdeal.Value.run m' g')
  rw [(hargs c).1, (hargs c).2.1, (hargs c).2.2]
  exact Cert.Agree.result_eq m hm c

theorem claim : Cert.Claim := ⟨Cert.Kernel.Gen.facts, Cert.KernelIdeal.Gen.facts, Cert.ReferenceIdeal.Gen.facts, Cert.Agree.pre_facts,
  frame_kernel, frame_kernelIdeal, fun m g _ => frame_kernelIdeal m g trivial, frame_referenceIdeal, fun m g _ => frame_referenceIdeal m g trivial,
  trivial, agree⟩

end Cert.Proof

end
